-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_types_in_range [hPre_types_in_range : Cert.Pre_types_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_types_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_types_in_range [hPre_types_in_range : Cert.Pre_types_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_types_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_types_in_range [hKernelIdeal : Cert.KernelIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_types_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_types_in_range [hReferenceIdeal : Cert.ReferenceIdeal.Facts] [hPre_types_in_range : Cert.Pre_types_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_types_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_types_in_range [hKernelIdeal : Cert.KernelIdeal.Facts] [hReferenceIdeal : Cert.ReferenceIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_types_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_types_in_range : Cert.Pre_types_in_range.Facts),
    quiescent_Kernel (hKernel := hKernel)
    ∧ quiescent_KernelIdeal (hKernelIdeal := hKernelIdeal)
    ∧ quiescent_KernelIdeal_pre_types_in_range (hKernelIdeal := hKernelIdeal) (hPre_types_in_range := hPre_types_in_range)
    ∧ quiescent_ReferenceIdeal (hReferenceIdeal := hReferenceIdeal)
    ∧ quiescent_ReferenceIdeal_pre_types_in_range (hReferenceIdeal := hReferenceIdeal) (hPre_types_in_range := hPre_types_in_range)
    ∧ preserves_Kernel_KernelIdeal
    ∧ algebraic_KernelIdeal_ReferenceIdeal_pre_types_in_range (hKernelIdeal := hKernelIdeal) (hReferenceIdeal := hReferenceIdeal) (hPre_types_in_range := hPre_types_in_range)
-- ==== Pre_types_in_range.lean ====
abbrev S16x4096x14x3 : Shape := ⟨4, ![16, 4096, 14, 3]⟩
abbrev S16x4096 : Shape := ⟨2, ![16, 4096]⟩
abbrev S_ : Shape := ⟨0, ![]⟩

class Facts : Prop where
  bcast_S_S16x4096 : S_.BroadcastsInDim S16x4096 (![] : Fin 0 → Fin S16x4096.rank)

variable [Facts]

def fn {F : FTy → Type} [FloatOps F] (main_arg0 : FVec F S16x4096x14x3 .f32) (main_arg1 : IVec S16x4096 32) (main_arg2 : IVec S16x4096 32) : IVec S16x4096 1 :=
  let main_c : IVec S_ 32 := constantI S_ 32 0#32
  let main_v0 : IVec S16x4096 32 := broadcastInDim S16x4096 ![] bcast_S_S16x4096 main_c
  let main_v1 : IVec S16x4096 1 := cmpi .sge main_arg2 main_v0
  let main_c_0 : IVec S_ 32 := constantI S_ 32 20#32
  let main_v2 : IVec S16x4096 32 := broadcastInDim S16x4096 ![] bcast_S_S16x4096 main_c_0
  let main_v3 : IVec S16x4096 1 := cmpi .slt main_arg2 main_v2
  let main_v4 : IVec S16x4096 1 := andi main_v1 main_v3
  main_v4
-- ==== Kernel.lean ====
abbrev S16x4096x14x3 : Shape := ⟨4, ![16, 4096, 14, 3]⟩
abbrev S16x4096 : Shape := ⟨2, ![16, 4096]⟩
abbrev S20x10 : Shape := ⟨2, ![20, 10]⟩
abbrev S65536x42 : Shape := ⟨2, ![65536, 42]⟩
abbrev S42x65536 : Shape := ⟨2, ![42, 65536]⟩
abbrev S42x512x128 : Shape := ⟨3, ![42, 512, 128]⟩
abbrev S512x128 : Shape := ⟨2, ![512, 128]⟩
abbrev S42x32x128 : Shape := ⟨3, ![42, 32, 128]⟩
abbrev S32x128 : Shape := ⟨2, ![32, 128]⟩
abbrev S1x32x128 : Shape := ⟨3, ![1, 32, 128]⟩
abbrev S1x1 : Shape := ⟨2, ![1, 1]⟩

abbrev nBuf : Space → Nat
  | .hbm => 18
  | .vmem => 8
  | .smem => 4
  | _ => 0

abbrev bufTy : (tb : Table) → Fin (tcTables nBuf tb) → BufTy
  | .hbm, ⟨0, _⟩ => ⟨S16x4096x14x3, .f32⟩
  | .hbm, ⟨1, _⟩ => ⟨S16x4096, .i32⟩
  | .hbm, ⟨2, _⟩ => ⟨S16x4096, .i32⟩
  | .hbm, ⟨3, _⟩ => ⟨S20x10, .f32⟩
  | .hbm, ⟨4, _⟩ => ⟨S20x10, .f32⟩
  | .hbm, ⟨5, _⟩ => ⟨S65536x42, .f32⟩
  | .hbm, ⟨6, _⟩ => ⟨S42x65536, .f32⟩
  | .hbm, ⟨7, _⟩ => ⟨S42x512x128, .f32⟩
  | .hbm, ⟨8, _⟩ => ⟨S512x128, .i32⟩
  | .hbm, ⟨9, _⟩ => ⟨S512x128, .i32⟩
  | .hbm, ⟨10, _⟩ => ⟨S20x10, .f32⟩
  | .hbm, ⟨11, _⟩ => ⟨S20x10, .f32⟩
  | .hbm, ⟨12, _⟩ => ⟨S20x10, .f32⟩
  | .hbm, ⟨13, _⟩ => ⟨S20x10, .f32⟩
  | .hbm, ⟨14, _⟩ => ⟨S42x512x128, .f32⟩
  | .hbm, ⟨15, _⟩ => ⟨S42x65536, .f32⟩
  | .hbm, ⟨16, _⟩ => ⟨S65536x42, .f32⟩
  | .hbm, ⟨17, _⟩ => ⟨S16x4096x14x3, .f32⟩
  | .local _ .vmem, ⟨0, _⟩ => ⟨S42x32x128, .f32⟩
  | .local _ .vmem, ⟨1, _⟩ => ⟨S42x32x128, .f32⟩
  | .local _ .vmem, ⟨2, _⟩ => ⟨S32x128, .i32⟩
  | .local _ .vmem, ⟨3, _⟩ => ⟨S32x128, .i32⟩
  | .local _ .vmem, ⟨4, _⟩ => ⟨S32x128, .i32⟩
  | .local _ .vmem, ⟨5, _⟩ => ⟨S32x128, .i32⟩
  | .local _ .vmem, ⟨6, _⟩ => ⟨S42x32x128, .f32⟩
  | .local _ .vmem, ⟨7, _⟩ => ⟨S42x32x128, .f32⟩
  | .local _ .smem, ⟨0, _⟩ => ⟨S20x10, .f32⟩
  | .local _ .smem, ⟨1, _⟩ => ⟨S20x10, .f32⟩
  | .local _ .smem, ⟨2, _⟩ => ⟨S20x10, .f32⟩
  | .local _ .smem, ⟨3, _⟩ => ⟨S20x10, .f32⟩
  | _, _ => ⟨S16x4096x14x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_stg6_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S42x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S20x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S20x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S20x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S20x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S42x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x4096x14x3 : Shape := ⟨4, ![16, 4096, 14, 3]⟩
abbrev S16x4096 : Shape := ⟨2, ![16, 4096]⟩
abbrev S20x4x4 : Shape := ⟨3, ![20, 4, 4]⟩
abbrev S20 : Shape := ⟨1, ![20]⟩
abbrev S20x10 : Shape := ⟨2, ![20, 10]⟩
abbrev S20x4 : Shape := ⟨2, ![20, 4]⟩
abbrev S20x10x3 : Shape := ⟨3, ![20, 10, 3]⟩
abbrev S_ : Shape := ⟨0, ![]⟩
abbrev S16x4096x1 : Shape := ⟨3, ![16, 4096, 1]⟩
abbrev S16x4096x4x4 : Shape := ⟨4, ![16, 4096, 4, 4]⟩
abbrev S16x4096x4x1 : Shape := ⟨4, ![16, 4096, 4, 1]⟩
abbrev S16x4096x4 : Shape := ⟨3, ![16, 4096, 4]⟩
abbrev S16x4096x4x3 : Shape := ⟨4, ![16, 4096, 4, 3]⟩
abbrev S4 : Shape := ⟨1, ![4]⟩
abbrev S1x1x4 : Shape := ⟨3, ![1, 1, 4]⟩
abbrev S16x4096x10 : Shape := ⟨3, ![16, 4096, 10]⟩
abbrev S10 : Shape := ⟨1, ![10]⟩
abbrev S1x1x10 : Shape := ⟨3, ![1, 1, 10]⟩
abbrev S16x4096x10x3 : Shape := ⟨4, ![16, 4096, 10, 3]⟩
abbrev S14 : Shape := ⟨1, ![14]⟩
abbrev S1x1x14x1 : Shape := ⟨4, ![1, 1, 14, 1]⟩
abbrev S16x4096x1x3 : Shape := ⟨4, ![16, 4096, 1, 3]⟩
abbrev S16x4096x3 : Shape := ⟨3, ![16, 4096, 3]⟩
abbrev S16x4096x3x1 : Shape := ⟨4, ![16, 4096, 3, 1]⟩
abbrev S16x4096x3x3 : Shape := ⟨4, ![16, 4096, 3, 3]⟩
abbrev S1x1x14 : Shape := ⟨3, ![1, 1, 14]⟩
abbrev S16x4096x14 : Shape := ⟨3, ![16, 4096, 14]⟩
abbrev S16x4096x14x1 : Shape := ⟨4, ![16, 4096, 14, 1]⟩

abbrev nBuf : Space → Nat
  | .hbm => 1418
  | .vmem => 0
  | .smem => 0
  | _ => 0

abbrev hbmTy0_0 (i : Nat) : BufTy := match i % 128 with
  | 0 => ⟨S16x4096x14x3, .f32⟩
  | 1 => ⟨S16x4096, .i32⟩
  | 2 => ⟨S16x4096, .i32⟩
  | 3 => ⟨S20x4x4, .i32⟩
  | 4 => ⟨S20, .i32⟩
  | 5 => ⟨S20x10, .f32⟩
  | 6 => ⟨S20x10, .f32⟩
  | 7 => ⟨S20x10, .f32⟩
  | 8 => ⟨S20x4, .i32⟩
  | 9 => ⟨S20x10x3, .i32⟩
  | 10 => ⟨S20, .i32⟩
  | 11 => ⟨S_, .i32⟩
  | 12 => ⟨S16x4096, .i32⟩
  | 13 => ⟨S16x4096, .i1⟩
  | 14 => ⟨S_, .i32⟩
  | 15 => ⟨S16x4096, .i32⟩
  | 16 => ⟨S16x4096, .i32⟩
  | 17 => ⟨S16x4096, .i32⟩
  | 18 => ⟨S16x4096x1, .i32⟩
  | 19 => ⟨S16x4096x4x4, .i32⟩
  | 20 => ⟨S16x4096x4x1, .i32⟩
  | 21 => ⟨S16x4096x4, .i32⟩
  | 22 => ⟨S16x4096x4x1, .i32⟩
  | 23 => ⟨S_, .i32⟩
  | 24 => ⟨S16x4096x4x1, .i32⟩
  | 25 => ⟨S16x4096x4x1, .i1⟩
  | 26 => ⟨S_, .i32⟩
  | 27 => ⟨S16x4096x4x1, .i32⟩
  | 28 => ⟨S16x4096x4x1, .i32⟩
  | 29 => ⟨S16x4096x4x1, .i32⟩
  | 30 => ⟨S16x4096x4x3, .f32⟩
  | 31 => ⟨S16x4096x4x1, .i32⟩
  | 32 => ⟨S16x4096x4, .i32⟩
  | 33 => ⟨S16x4096x4x1, .i32⟩
  | 34 => ⟨S_, .i32⟩
  | 35 => ⟨S16x4096x4x1, .i32⟩
  | 36 => ⟨S16x4096x4x1, .i1⟩
  | 37 => ⟨S_, .i32⟩
  | 38 => ⟨S16x4096x4x1, .i32⟩
  | 39 => ⟨S16x4096x4x1, .i32⟩
  | 40 => ⟨S16x4096x4x1, .i32⟩
  | 41 => ⟨S16x4096x4x3, .f32⟩
  | 42 => ⟨S16x4096x4x1, .i32⟩
  | 43 => ⟨S16x4096x4, .i32⟩
  | 44 => ⟨S16x4096x4x1, .i32⟩
  | 45 => ⟨S_, .i32⟩
  | 46 => ⟨S16x4096x4x1, .i32⟩
  | 47 => ⟨S16x4096x4x1, .i1⟩
  | 48 => ⟨S_, .i32⟩
  | 49 => ⟨S16x4096x4x1, .i32⟩
  | 50 => ⟨S16x4096x4x1, .i32⟩
  | 51 => ⟨S16x4096x4x1, .i32⟩
  | 52 => ⟨S16x4096x4x3, .f32⟩
  | 53 => ⟨S16x4096x4x1, .i32⟩
  | 54 => ⟨S16x4096x4, .i32⟩
  | 55 => ⟨S16x4096x4x1, .i32⟩
  | 56 => ⟨S_, .i32⟩
  | 57 => ⟨S16x4096x4x1, .i32⟩
  | 58 => ⟨S16x4096x4x1, .i1⟩
  | 59 => ⟨S_, .i32⟩
  | 60 => ⟨S16x4096x4x1, .i32⟩
  | 61 => ⟨S16x4096x4x1, .i32⟩
  | 62 => ⟨S16x4096x4x1, .i32⟩
  | 63 => ⟨S16x4096x4x3, .f32⟩
  | 64 => ⟨S16x4096x4x3, .f32⟩
  | 65 => ⟨S16x4096x4x3, .f32⟩
  | 66 => ⟨S_, .f32⟩
  | 67 => ⟨S16x4096x4, .f32⟩
  | 68 => ⟨S16x4096x4x1, .f32⟩
  | 69 => ⟨S_, .f32⟩
  | 70 => ⟨S16x4096x4x1, .f32⟩
  | 71 => ⟨S16x4096x4x1, .f32⟩
  | 72 => ⟨S16x4096x4x1, .f32⟩
  | 73 => ⟨S16x4096x4x3, .f32⟩
  | 74 => ⟨S16x4096x4x3, .f32⟩
  | 75 => ⟨S16x4096x4x3, .f32⟩
  | 76 => ⟨S16x4096x4x3, .f32⟩
  | 77 => ⟨S_, .f32⟩
  | 78 => ⟨S16x4096x4, .f32⟩
  | 79 => ⟨S16x4096x4x1, .f32⟩
  | 80 => ⟨S_, .f32⟩
  | 81 => ⟨S16x4096x4x1, .f32⟩
  | 82 => ⟨S16x4096x4x1, .f32⟩
  | 83 => ⟨S16x4096x4x1, .f32⟩
  | 84 => ⟨S16x4096x4x3, .f32⟩
  | 85 => ⟨S16x4096x4x3, .f32⟩
  | 86 => ⟨S16x4096x4x3, .f32⟩
  | 87 => ⟨S16x4096x4x3, .f32⟩
  | 88 => ⟨S_, .f32⟩
  | 89 => ⟨S16x4096x4, .f32⟩
  | 90 => ⟨S16x4096x4x1, .f32⟩
  | 91 => ⟨S_, .f32⟩
  | 92 => ⟨S16x4096x4x1, .f32⟩
  | 93 => ⟨S16x4096x4x1, .f32⟩
  | 94 => ⟨S16x4096x4x1, .f32⟩
  | 95 => ⟨S16x4096x4x3, .f32⟩
  | 96 => ⟨S16x4096x4x3, .f32⟩
  | 97 => ⟨S16x4096x4x1, .f32⟩
  | 98 => ⟨S16x4096x4x1, .f32⟩
  | 99 => ⟨S16x4096x4x1, .f32⟩
  | 100 => ⟨S16x4096x4x1, .f32⟩
  | 101 => ⟨S16x4096x4x1, .f32⟩
  | 102 => ⟨S16x4096x4x1, .f32⟩
  | 103 => ⟨S16x4096x4x1, .f32⟩
  | 104 => ⟨S16x4096x4x1, .f32⟩
  | 105 => ⟨S16x4096x4x1, .f32⟩
  | 106 => ⟨S16x4096x4x1, .f32⟩
  | 107 => ⟨S16x4096x4x1, .f32⟩
  | 108 => ⟨S16x4096x4x1, .f32⟩
  | 109 => ⟨S16x4096x4x1, .f32⟩
  | 110 => ⟨S16x4096x4x1, .f32⟩
  | 111 => ⟨S16x4096x4x1, .f32⟩
  | 112 => ⟨S16x4096x4x3, .f32⟩
  | 113 => ⟨S16x4096x4x3, .f32⟩
  | 114 => ⟨S_, .f32⟩
  | 115 => ⟨S16x4096x4, .f32⟩
  | 116 => ⟨S16x4096x4x1, .f32⟩
  | 117 => ⟨S_, .f32⟩
  | 118 => ⟨S16x4096x4x1, .f32⟩
  | 119 => ⟨S16x4096x4x1, .f32⟩
  | 120 => ⟨S16x4096x4x1, .f32⟩
  | 121 => ⟨S16x4096x4x3, .f32⟩
  | 122 => ⟨S16x4096x4x3, .f32⟩
  | 123 => ⟨S16x4096x4x1, .f32⟩
  | 124 => ⟨S16x4096x4x1, .f32⟩
  | 125 => ⟨S16x4096x4x1, .f32⟩
  | 126 => ⟨S16x4096x4x1, .f32⟩
  | 127 => ⟨S16x4096x4x1, .f32⟩
  | _ => ⟨S16x4096x14x3, .f32⟩

abbrev hbmTy0_1 (i : Nat) : BufTy := match i % 128 with
  | 0 => ⟨S16x4096x4x1, .f32⟩
  | 1 => ⟨S16x4096x4x1, .f32⟩
  | 2 => ⟨S16x4096x4x1, .f32⟩
  | 3 => ⟨S16x4096x4x1, .f32⟩
  | 4 => ⟨S16x4096x4x1, .f32⟩
  | 5 => ⟨S16x4096x4x1, .f32⟩
  | 6 => ⟨S16x4096x4x1, .f32⟩
  | 7 => ⟨S16x4096x4x1, .f32⟩
  | 8 => ⟨S16x4096x4x1, .f32⟩
  | 9 => ⟨S16x4096x4x1, .f32⟩
  | 10 => ⟨S16x4096x4x3, .f32⟩
  | 11 => ⟨S16x4096x4x3, .f32⟩
  | 12 => ⟨S_, .f32⟩
  | 13 => ⟨S16x4096x4, .f32⟩
  | 14 => ⟨S16x4096x4x1, .f32⟩
  | 15 => ⟨S_, .f32⟩
  | 16 => ⟨S16x4096x4x1, .f32⟩
  | 17 => ⟨S16x4096x4x1, .f32⟩
  | 18 => ⟨S16x4096x4x1, .f32⟩
  | 19 => ⟨S16x4096x4x3, .f32⟩
  | 20 => ⟨S16x4096x4x3, .f32⟩
  | 21 => ⟨S16x4096x4x3, .f32⟩
  | 22 => ⟨S_, .f32⟩
  | 23 => ⟨S16x4096x4, .f32⟩
  | 24 => ⟨S16x4096x4x1, .f32⟩
  | 25 => ⟨S16x4096x4x1, .f32⟩
  | 26 => ⟨S16x4096x4x1, .f32⟩
  | 27 => ⟨S16x4096x4x1, .f32⟩
  | 28 => ⟨S16x4096x4x1, .f32⟩
  | 29 => ⟨S16x4096x4x1, .f32⟩
  | 30 => ⟨S16x4096x4x1, .f32⟩
  | 31 => ⟨S16x4096x4x1, .f32⟩
  | 32 => ⟨S16x4096x4x1, .f32⟩
  | 33 => ⟨S16x4096x4x1, .f32⟩
  | 34 => ⟨S16x4096x4x1, .f32⟩
  | 35 => ⟨S16x4096x4x1, .f32⟩
  | 36 => ⟨S16x4096x4x1, .f32⟩
  | 37 => ⟨S16x4096x4x1, .f32⟩
  | 38 => ⟨S16x4096x4x1, .f32⟩
  | 39 => ⟨S16x4096x4x3, .f32⟩
  | 40 => ⟨S16x4096x4x3, .f32⟩
  | 41 => ⟨S_, .f32⟩
  | 42 => ⟨S16x4096x4, .f32⟩
  | 43 => ⟨S16x4096x4, .f32⟩
  | 44 => ⟨S_, .i32⟩
  | 45 => ⟨S16x4096, .i32⟩
  | 46 => ⟨S16x4096, .i1⟩
  | 47 => ⟨S_, .i32⟩
  | 48 => ⟨S16x4096, .i32⟩
  | 49 => ⟨S16x4096, .i32⟩
  | 50 => ⟨S16x4096, .i32⟩
  | 51 => ⟨S16x4096x1, .i32⟩
  | 52 => ⟨S16x4096, .i32⟩
  | 53 => ⟨S16x4096, .f32⟩
  | 54 => ⟨S_, .i32⟩
  | 55 => ⟨S16x4096, .i32⟩
  | 56 => ⟨S16x4096, .i1⟩
  | 57 => ⟨S16x4096, .f32⟩
  | 58 => ⟨S16x4096, .f32⟩
  | 59 => ⟨S4, .i32⟩
  | 60 => ⟨S1x1x4, .i32⟩
  | 61 => ⟨S16x4096x1, .f32⟩
  | 62 => ⟨S1x1x4, .f32⟩
  | 63 => ⟨S16x4096x4, .f32⟩
  | 64 => ⟨S16x4096x4, .f32⟩
  | 65 => ⟨S16x4096x4, .i1⟩
  | 66 => ⟨S16x4096x4, .f32⟩
  | 67 => ⟨S16x4096x4, .f32⟩
  | 68 => ⟨S_, .i32⟩
  | 69 => ⟨S16x4096, .i32⟩
  | 70 => ⟨S16x4096, .i1⟩
  | 71 => ⟨S_, .i32⟩
  | 72 => ⟨S16x4096, .i32⟩
  | 73 => ⟨S16x4096, .i32⟩
  | 74 => ⟨S16x4096, .i32⟩
  | 75 => ⟨S16x4096x1, .i32⟩
  | 76 => ⟨S16x4096x10, .f32⟩
  | 77 => ⟨S_, .i32⟩
  | 78 => ⟨S16x4096, .i32⟩
  | 79 => ⟨S16x4096, .i1⟩
  | 80 => ⟨S_, .i32⟩
  | 81 => ⟨S16x4096, .i32⟩
  | 82 => ⟨S16x4096, .i32⟩
  | 83 => ⟨S16x4096, .i32⟩
  | 84 => ⟨S16x4096x1, .i32⟩
  | 85 => ⟨S16x4096x10, .f32⟩
  | 86 => ⟨S_, .i32⟩
  | 87 => ⟨S16x4096, .i32⟩
  | 88 => ⟨S16x4096, .i1⟩
  | 89 => ⟨S_, .i32⟩
  | 90 => ⟨S16x4096, .i32⟩
  | 91 => ⟨S16x4096, .i32⟩
  | 92 => ⟨S16x4096, .i32⟩
  | 93 => ⟨S16x4096x1, .i32⟩
  | 94 => ⟨S16x4096x10, .f32⟩
  | 95 => ⟨S_, .i32⟩
  | 96 => ⟨S16x4096, .i32⟩
  | 97 => ⟨S16x4096, .i1⟩
  | 98 => ⟨S_, .i32⟩
  | 99 => ⟨S16x4096, .i32⟩
  | 100 => ⟨S16x4096, .i32⟩
  | 101 => ⟨S16x4096, .i32⟩
  | 102 => ⟨S16x4096x1, .i32⟩
  | 103 => ⟨S16x4096x4, .i32⟩
  | 104 => ⟨S16x4096x1, .i32⟩
  | 105 => ⟨S16x4096, .i32⟩
  | 106 => ⟨S16x4096x1, .i32⟩
  | 107 => ⟨S10, .i32⟩
  | 108 => ⟨S1x1x10, .i32⟩
  | 109 => ⟨S16x4096x10, .i32⟩
  | 110 => ⟨S16x4096x10, .i32⟩
  | 111 => ⟨S16x4096x10, .i1⟩
  | 112 => ⟨S16x4096x1, .f32⟩
  | 113 => ⟨S16x4096, .f32⟩
  | 114 => ⟨S16x4096x1, .f32⟩
  | 115 => ⟨S16x4096x10, .f32⟩
  | 116 => ⟨S16x4096x10, .f32⟩
  | 117 => ⟨S16x4096x1, .i32⟩
  | 118 => ⟨S16x4096, .i32⟩
  | 119 => ⟨S16x4096x1, .i32⟩
  | 120 => ⟨S10, .i32⟩
  | 121 => ⟨S1x1x10, .i32⟩
  | 122 => ⟨S16x4096x10, .i32⟩
  | 123 => ⟨S16x4096x10, .i32⟩
  | 124 => ⟨S16x4096x10, .i1⟩
  | 125 => ⟨S16x4096x1, .f32⟩
  | 126 => ⟨S16x4096, .f32⟩
  | 127 => ⟨S16x4096x1, .f32⟩
  | _ => ⟨S16x4096x14x3, .f32⟩

abbrev hbmTy0_2 (i : Nat) : BufTy := match i % 128 with
  | 0 => ⟨S16x4096x10, .f32⟩
  | 1 => ⟨S16x4096x10, .f32⟩
  | 2 => ⟨S16x4096x1, .i32⟩
  | 3 => ⟨S16x4096, .i32⟩
  | 4 => ⟨S16x4096x1, .i32⟩
  | 5 => ⟨S10, .i32⟩
  | 6 => ⟨S1x1x10, .i32⟩
  | 7 => ⟨S16x4096x10, .i32⟩
  | 8 => ⟨S16x4096x10, .i32⟩
  | 9 => ⟨S16x4096x10, .i1⟩
  | 10 => ⟨S16x4096x1, .f32⟩
  | 11 => ⟨S16x4096, .f32⟩
  | 12 => ⟨S16x4096x1, .f32⟩
  | 13 => ⟨S16x4096x10, .f32⟩
  | 14 => ⟨S16x4096x10, .f32⟩
  | 15 => ⟨S16x4096x1, .i32⟩
  | 16 => ⟨S16x4096, .i32⟩
  | 17 => ⟨S16x4096x1, .i32⟩
  | 18 => ⟨S10, .i32⟩
  | 19 => ⟨S1x1x10, .i32⟩
  | 20 => ⟨S16x4096x10, .i32⟩
  | 21 => ⟨S16x4096x10, .i32⟩
  | 22 => ⟨S16x4096x10, .i1⟩
  | 23 => ⟨S16x4096x1, .f32⟩
  | 24 => ⟨S16x4096, .f32⟩
  | 25 => ⟨S16x4096x1, .f32⟩
  | 26 => ⟨S16x4096x10, .f32⟩
  | 27 => ⟨S16x4096x10, .f32⟩
  | 28 => ⟨S_, .i32⟩
  | 29 => ⟨S16x4096, .i32⟩
  | 30 => ⟨S16x4096, .i1⟩
  | 31 => ⟨S_, .i32⟩
  | 32 => ⟨S16x4096, .i32⟩
  | 33 => ⟨S16x4096, .i32⟩
  | 34 => ⟨S16x4096, .i32⟩
  | 35 => ⟨S16x4096x1, .i32⟩
  | 36 => ⟨S16x4096x10x3, .i32⟩
  | 37 => ⟨S14, .i32⟩
  | 38 => ⟨S1x1x14x1, .i32⟩
  | 39 => ⟨S_, .i32⟩
  | 40 => ⟨S1x1x14x1, .i32⟩
  | 41 => ⟨S1x1x14x1, .i1⟩
  | 42 => ⟨S_, .f32⟩
  | 43 => ⟨S16x4096x14x3, .i1⟩
  | 44 => ⟨S16x4096x14x3, .f32⟩
  | 45 => ⟨S16x4096x14x3, .f32⟩
  | 46 => ⟨S16x4096x1x3, .i32⟩
  | 47 => ⟨S16x4096x3, .i32⟩
  | 48 => ⟨S16x4096x3x1, .i32⟩
  | 49 => ⟨S_, .i32⟩
  | 50 => ⟨S16x4096x3x1, .i32⟩
  | 51 => ⟨S16x4096x3x1, .i1⟩
  | 52 => ⟨S_, .i32⟩
  | 53 => ⟨S16x4096x3x1, .i32⟩
  | 54 => ⟨S16x4096x3x1, .i32⟩
  | 55 => ⟨S16x4096x3x1, .i32⟩
  | 56 => ⟨S16x4096x3x3, .f32⟩
  | 57 => ⟨S16x4096x1x3, .f32⟩
  | 58 => ⟨S16x4096x3, .f32⟩
  | 59 => ⟨S16x4096x1x3, .f32⟩
  | 60 => ⟨S16x4096x3, .f32⟩
  | 61 => ⟨S16x4096x1x3, .f32⟩
  | 62 => ⟨S16x4096x3, .f32⟩
  | 63 => ⟨S16x4096x1, .f32⟩
  | 64 => ⟨S16x4096, .f32⟩
  | 65 => ⟨S16x4096x1, .f32⟩
  | 66 => ⟨S16x4096, .f32⟩
  | 67 => ⟨S16x4096x1, .f32⟩
  | 68 => ⟨S16x4096, .f32⟩
  | 69 => ⟨S16x4096x3, .f32⟩
  | 70 => ⟨S16x4096x3, .f32⟩
  | 71 => ⟨S_, .f32⟩
  | 72 => ⟨S16x4096, .f32⟩
  | 73 => ⟨S16x4096x1, .f32⟩
  | 74 => ⟨S_, .f32⟩
  | 75 => ⟨S16x4096x1, .f32⟩
  | 76 => ⟨S16x4096x1, .f32⟩
  | 77 => ⟨S16x4096x1, .f32⟩
  | 78 => ⟨S16x4096x3, .f32⟩
  | 79 => ⟨S16x4096x3, .f32⟩
  | 80 => ⟨S16x4096x3, .f32⟩
  | 81 => ⟨S16x4096x1, .f32⟩
  | 82 => ⟨S16x4096x1, .f32⟩
  | 83 => ⟨S16x4096x1, .f32⟩
  | 84 => ⟨S16x4096x1, .f32⟩
  | 85 => ⟨S16x4096x1, .f32⟩
  | 86 => ⟨S16x4096x1, .f32⟩
  | 87 => ⟨S16x4096x1, .f32⟩
  | 88 => ⟨S16x4096x1, .f32⟩
  | 89 => ⟨S16x4096x1, .f32⟩
  | 90 => ⟨S16x4096x1, .f32⟩
  | 91 => ⟨S16x4096x1, .f32⟩
  | 92 => ⟨S16x4096x1, .f32⟩
  | 93 => ⟨S16x4096x1, .f32⟩
  | 94 => ⟨S16x4096x1, .f32⟩
  | 95 => ⟨S16x4096x1, .f32⟩
  | 96 => ⟨S16x4096x3, .f32⟩
  | 97 => ⟨S16x4096x3, .f32⟩
  | 98 => ⟨S_, .f32⟩
  | 99 => ⟨S16x4096, .f32⟩
  | 100 => ⟨S16x4096x1, .f32⟩
  | 101 => ⟨S_, .f32⟩
  | 102 => ⟨S16x4096x1, .f32⟩
  | 103 => ⟨S16x4096x1, .f32⟩
  | 104 => ⟨S16x4096x1, .f32⟩
  | 105 => ⟨S16x4096x3, .f32⟩
  | 106 => ⟨S16x4096x3, .f32⟩
  | 107 => ⟨S16x4096x1, .f32⟩
  | 108 => ⟨S16x4096x1, .f32⟩
  | 109 => ⟨S16x4096x1, .f32⟩
  | 110 => ⟨S16x4096x1, .f32⟩
  | 111 => ⟨S16x4096x1, .f32⟩
  | 112 => ⟨S16x4096x1, .f32⟩
  | 113 => ⟨S16x4096x1, .f32⟩
  | 114 => ⟨S16x4096x1, .f32⟩
  | 115 => ⟨S16x4096x1, .f32⟩
  | 116 => ⟨S16x4096x1, .f32⟩
  | 117 => ⟨S16x4096x1, .f32⟩
  | 118 => ⟨S16x4096x1, .f32⟩
  | 119 => ⟨S16x4096x1, .f32⟩
  | 120 => ⟨S16x4096x1, .f32⟩
  | 121 => ⟨S16x4096x1, .f32⟩
  | 122 => ⟨S16x4096x3, .f32⟩
  | 123 => ⟨S16x4096, .f32⟩
  | 124 => ⟨S16x4096x1, .f32⟩
  | 125 => ⟨S16x4096x1, .f32⟩
  | 126 => ⟨S16x4096x3, .f32⟩
  | 127 => ⟨S16x4096x3, .f32⟩
  | _ => ⟨S16x4096x14x3, .f32⟩

abbrev hbmTy0_3 (i : Nat) : BufTy := match i % 128 with
  | 0 => ⟨S16x4096, .f32⟩
  | 1 => ⟨S16x4096x1, .f32⟩
  | 2 => ⟨S16x4096, .f32⟩
  | 3 => ⟨S16x4096x1, .f32⟩
  | 4 => ⟨S16x4096x1, .f32⟩
  | 5 => ⟨S16x4096x3, .f32⟩
  | 6 => ⟨S16x4096x3, .f32⟩
  | 7 => ⟨S16x4096x3, .f32⟩
  | 8 => ⟨S16x4096, .f32⟩
  | 9 => ⟨S16x4096x1, .f32⟩
  | 10 => ⟨S16x4096, .f32⟩
  | 11 => ⟨S16x4096x1, .f32⟩
  | 12 => ⟨S16x4096x1, .f32⟩
  | 13 => ⟨S16x4096x3, .f32⟩
  | 14 => ⟨S16x4096x3, .f32⟩
  | 15 => ⟨S16x4096x3, .f32⟩
  | 16 => ⟨S16x4096x1, .f32⟩
  | 17 => ⟨S16x4096x3, .f32⟩
  | 18 => ⟨S16x4096x3, .f32⟩
  | 19 => ⟨S16x4096x3, .f32⟩
  | 20 => ⟨S_, .i32⟩
  | 21 => ⟨S1x1x14x1, .i32⟩
  | 22 => ⟨S1x1x14x1, .i1⟩
  | 23 => ⟨S16x4096x1x3, .f32⟩
  | 24 => ⟨S16x4096x14x3, .i1⟩
  | 25 => ⟨S16x4096x14x3, .f32⟩
  | 26 => ⟨S16x4096x14x3, .f32⟩
  | 27 => ⟨S16x4096x1x3, .i32⟩
  | 28 => ⟨S16x4096x3, .i32⟩
  | 29 => ⟨S16x4096x3x1, .i32⟩
  | 30 => ⟨S_, .i32⟩
  | 31 => ⟨S16x4096x3x1, .i32⟩
  | 32 => ⟨S16x4096x3x1, .i1⟩
  | 33 => ⟨S_, .i32⟩
  | 34 => ⟨S16x4096x3x1, .i32⟩
  | 35 => ⟨S16x4096x3x1, .i32⟩
  | 36 => ⟨S16x4096x3x1, .i32⟩
  | 37 => ⟨S16x4096x3x3, .f32⟩
  | 38 => ⟨S16x4096x1x3, .f32⟩
  | 39 => ⟨S16x4096x3, .f32⟩
  | 40 => ⟨S16x4096x1x3, .f32⟩
  | 41 => ⟨S16x4096x3, .f32⟩
  | 42 => ⟨S16x4096x1x3, .f32⟩
  | 43 => ⟨S16x4096x3, .f32⟩
  | 44 => ⟨S16x4096x1, .f32⟩
  | 45 => ⟨S16x4096, .f32⟩
  | 46 => ⟨S16x4096x1, .f32⟩
  | 47 => ⟨S16x4096, .f32⟩
  | 48 => ⟨S16x4096x1, .f32⟩
  | 49 => ⟨S16x4096, .f32⟩
  | 50 => ⟨S16x4096x3, .f32⟩
  | 51 => ⟨S16x4096x3, .f32⟩
  | 52 => ⟨S_, .f32⟩
  | 53 => ⟨S16x4096, .f32⟩
  | 54 => ⟨S16x4096x1, .f32⟩
  | 55 => ⟨S_, .f32⟩
  | 56 => ⟨S16x4096x1, .f32⟩
  | 57 => ⟨S16x4096x1, .f32⟩
  | 58 => ⟨S16x4096x1, .f32⟩
  | 59 => ⟨S16x4096x3, .f32⟩
  | 60 => ⟨S16x4096x3, .f32⟩
  | 61 => ⟨S16x4096x3, .f32⟩
  | 62 => ⟨S16x4096x1, .f32⟩
  | 63 => ⟨S16x4096x1, .f32⟩
  | 64 => ⟨S16x4096x1, .f32⟩
  | 65 => ⟨S16x4096x1, .f32⟩
  | 66 => ⟨S16x4096x1, .f32⟩
  | 67 => ⟨S16x4096x1, .f32⟩
  | 68 => ⟨S16x4096x1, .f32⟩
  | 69 => ⟨S16x4096x1, .f32⟩
  | 70 => ⟨S16x4096x1, .f32⟩
  | 71 => ⟨S16x4096x1, .f32⟩
  | 72 => ⟨S16x4096x1, .f32⟩
  | 73 => ⟨S16x4096x1, .f32⟩
  | 74 => ⟨S16x4096x1, .f32⟩
  | 75 => ⟨S16x4096x1, .f32⟩
  | 76 => ⟨S16x4096x1, .f32⟩
  | 77 => ⟨S16x4096x3, .f32⟩
  | 78 => ⟨S16x4096x3, .f32⟩
  | 79 => ⟨S_, .f32⟩
  | 80 => ⟨S16x4096, .f32⟩
  | 81 => ⟨S16x4096x1, .f32⟩
  | 82 => ⟨S_, .f32⟩
  | 83 => ⟨S16x4096x1, .f32⟩
  | 84 => ⟨S16x4096x1, .f32⟩
  | 85 => ⟨S16x4096x1, .f32⟩
  | 86 => ⟨S16x4096x3, .f32⟩
  | 87 => ⟨S16x4096x3, .f32⟩
  | 88 => ⟨S16x4096x1, .f32⟩
  | 89 => ⟨S16x4096x1, .f32⟩
  | 90 => ⟨S16x4096x1, .f32⟩
  | 91 => ⟨S16x4096x1, .f32⟩
  | 92 => ⟨S16x4096x1, .f32⟩
  | 93 => ⟨S16x4096x1, .f32⟩
  | 94 => ⟨S16x4096x1, .f32⟩
  | 95 => ⟨S16x4096x1, .f32⟩
  | 96 => ⟨S16x4096x1, .f32⟩
  | 97 => ⟨S16x4096x1, .f32⟩
  | 98 => ⟨S16x4096x1, .f32⟩
  | 99 => ⟨S16x4096x1, .f32⟩
  | 100 => ⟨S16x4096x1, .f32⟩
  | 101 => ⟨S16x4096x1, .f32⟩
  | 102 => ⟨S16x4096x1, .f32⟩
  | 103 => ⟨S16x4096x3, .f32⟩
  | 104 => ⟨S16x4096, .f32⟩
  | 105 => ⟨S16x4096x1, .f32⟩
  | 106 => ⟨S16x4096x1, .f32⟩
  | 107 => ⟨S16x4096x3, .f32⟩
  | 108 => ⟨S16x4096x3, .f32⟩
  | 109 => ⟨S16x4096, .f32⟩
  | 110 => ⟨S16x4096x1, .f32⟩
  | 111 => ⟨S16x4096, .f32⟩
  | 112 => ⟨S16x4096x1, .f32⟩
  | 113 => ⟨S16x4096x1, .f32⟩
  | 114 => ⟨S16x4096x3, .f32⟩
  | 115 => ⟨S16x4096x3, .f32⟩
  | 116 => ⟨S16x4096x3, .f32⟩
  | 117 => ⟨S16x4096, .f32⟩
  | 118 => ⟨S16x4096x1, .f32⟩
  | 119 => ⟨S16x4096, .f32⟩
  | 120 => ⟨S16x4096x1, .f32⟩
  | 121 => ⟨S16x4096x1, .f32⟩
  | 122 => ⟨S16x4096x3, .f32⟩
  | 123 => ⟨S16x4096x3, .f32⟩
  | 124 => ⟨S16x4096x3, .f32⟩
  | 125 => ⟨S16x4096x1, .f32⟩
  | 126 => ⟨S16x4096x3, .f32⟩
  | 127 => ⟨S16x4096x3, .f32⟩
  | _ => ⟨S16x4096x14x3, .f32⟩

abbrev hbmTy0_4 (i : Nat) : BufTy := match i % 128 with
  | 0 => ⟨S16x4096x3, .f32⟩
  | 1 => ⟨S_, .i32⟩
  | 2 => ⟨S1x1x14x1, .i32⟩
  | 3 => ⟨S1x1x14x1, .i1⟩
  | 4 => ⟨S16x4096x1x3, .f32⟩
  | 5 => ⟨S16x4096x14x3, .i1⟩
  | 6 => ⟨S16x4096x14x3, .f32⟩
  | 7 => ⟨S16x4096x14x3, .f32⟩
  | 8 => ⟨S16x4096x1x3, .i32⟩
  | 9 => ⟨S16x4096x3, .i32⟩
  | 10 => ⟨S16x4096x3x1, .i32⟩
  | 11 => ⟨S_, .i32⟩
  | 12 => ⟨S16x4096x3x1, .i32⟩
  | 13 => ⟨S16x4096x3x1, .i1⟩
  | 14 => ⟨S_, .i32⟩
  | 15 => ⟨S16x4096x3x1, .i32⟩
  | 16 => ⟨S16x4096x3x1, .i32⟩
  | 17 => ⟨S16x4096x3x1, .i32⟩
  | 18 => ⟨S16x4096x3x3, .f32⟩
  | 19 => ⟨S16x4096x1x3, .f32⟩
  | 20 => ⟨S16x4096x3, .f32⟩
  | 21 => ⟨S16x4096x1x3, .f32⟩
  | 22 => ⟨S16x4096x3, .f32⟩
  | 23 => ⟨S16x4096x1x3, .f32⟩
  | 24 => ⟨S16x4096x3, .f32⟩
  | 25 => ⟨S16x4096x1, .f32⟩
  | 26 => ⟨S16x4096, .f32⟩
  | 27 => ⟨S16x4096x1, .f32⟩
  | 28 => ⟨S16x4096, .f32⟩
  | 29 => ⟨S16x4096x1, .f32⟩
  | 30 => ⟨S16x4096, .f32⟩
  | 31 => ⟨S16x4096x3, .f32⟩
  | 32 => ⟨S16x4096x3, .f32⟩
  | 33 => ⟨S_, .f32⟩
  | 34 => ⟨S16x4096, .f32⟩
  | 35 => ⟨S16x4096x1, .f32⟩
  | 36 => ⟨S_, .f32⟩
  | 37 => ⟨S16x4096x1, .f32⟩
  | 38 => ⟨S16x4096x1, .f32⟩
  | 39 => ⟨S16x4096x1, .f32⟩
  | 40 => ⟨S16x4096x3, .f32⟩
  | 41 => ⟨S16x4096x3, .f32⟩
  | 42 => ⟨S16x4096x3, .f32⟩
  | 43 => ⟨S16x4096x1, .f32⟩
  | 44 => ⟨S16x4096x1, .f32⟩
  | 45 => ⟨S16x4096x1, .f32⟩
  | 46 => ⟨S16x4096x1, .f32⟩
  | 47 => ⟨S16x4096x1, .f32⟩
  | 48 => ⟨S16x4096x1, .f32⟩
  | 49 => ⟨S16x4096x1, .f32⟩
  | 50 => ⟨S16x4096x1, .f32⟩
  | 51 => ⟨S16x4096x1, .f32⟩
  | 52 => ⟨S16x4096x1, .f32⟩
  | 53 => ⟨S16x4096x1, .f32⟩
  | 54 => ⟨S16x4096x1, .f32⟩
  | 55 => ⟨S16x4096x1, .f32⟩
  | 56 => ⟨S16x4096x1, .f32⟩
  | 57 => ⟨S16x4096x1, .f32⟩
  | 58 => ⟨S16x4096x3, .f32⟩
  | 59 => ⟨S16x4096x3, .f32⟩
  | 60 => ⟨S_, .f32⟩
  | 61 => ⟨S16x4096, .f32⟩
  | 62 => ⟨S16x4096x1, .f32⟩
  | 63 => ⟨S_, .f32⟩
  | 64 => ⟨S16x4096x1, .f32⟩
  | 65 => ⟨S16x4096x1, .f32⟩
  | 66 => ⟨S16x4096x1, .f32⟩
  | 67 => ⟨S16x4096x3, .f32⟩
  | 68 => ⟨S16x4096x3, .f32⟩
  | 69 => ⟨S16x4096x1, .f32⟩
  | 70 => ⟨S16x4096x1, .f32⟩
  | 71 => ⟨S16x4096x1, .f32⟩
  | 72 => ⟨S16x4096x1, .f32⟩
  | 73 => ⟨S16x4096x1, .f32⟩
  | 74 => ⟨S16x4096x1, .f32⟩
  | 75 => ⟨S16x4096x1, .f32⟩
  | 76 => ⟨S16x4096x1, .f32⟩
  | 77 => ⟨S16x4096x1, .f32⟩
  | 78 => ⟨S16x4096x1, .f32⟩
  | 79 => ⟨S16x4096x1, .f32⟩
  | 80 => ⟨S16x4096x1, .f32⟩
  | 81 => ⟨S16x4096x1, .f32⟩
  | 82 => ⟨S16x4096x1, .f32⟩
  | 83 => ⟨S16x4096x1, .f32⟩
  | 84 => ⟨S16x4096x3, .f32⟩
  | 85 => ⟨S16x4096, .f32⟩
  | 86 => ⟨S16x4096x1, .f32⟩
  | 87 => ⟨S16x4096x1, .f32⟩
  | 88 => ⟨S16x4096x3, .f32⟩
  | 89 => ⟨S16x4096x3, .f32⟩
  | 90 => ⟨S16x4096, .f32⟩
  | 91 => ⟨S16x4096x1, .f32⟩
  | 92 => ⟨S16x4096, .f32⟩
  | 93 => ⟨S16x4096x1, .f32⟩
  | 94 => ⟨S16x4096x1, .f32⟩
  | 95 => ⟨S16x4096x3, .f32⟩
  | 96 => ⟨S16x4096x3, .f32⟩
  | 97 => ⟨S16x4096x3, .f32⟩
  | 98 => ⟨S16x4096, .f32⟩
  | 99 => ⟨S16x4096x1, .f32⟩
  | 100 => ⟨S16x4096, .f32⟩
  | 101 => ⟨S16x4096x1, .f32⟩
  | 102 => ⟨S16x4096x1, .f32⟩
  | 103 => ⟨S16x4096x3, .f32⟩
  | 104 => ⟨S16x4096x3, .f32⟩
  | 105 => ⟨S16x4096x3, .f32⟩
  | 106 => ⟨S16x4096x1, .f32⟩
  | 107 => ⟨S16x4096x3, .f32⟩
  | 108 => ⟨S16x4096x3, .f32⟩
  | 109 => ⟨S16x4096x3, .f32⟩
  | 110 => ⟨S_, .i32⟩
  | 111 => ⟨S1x1x14x1, .i32⟩
  | 112 => ⟨S1x1x14x1, .i1⟩
  | 113 => ⟨S16x4096x1x3, .f32⟩
  | 114 => ⟨S16x4096x14x3, .i1⟩
  | 115 => ⟨S16x4096x14x3, .f32⟩
  | 116 => ⟨S16x4096x14x3, .f32⟩
  | 117 => ⟨S16x4096x1x3, .i32⟩
  | 118 => ⟨S16x4096x3, .i32⟩
  | 119 => ⟨S16x4096x3x1, .i32⟩
  | 120 => ⟨S_, .i32⟩
  | 121 => ⟨S16x4096x3x1, .i32⟩
  | 122 => ⟨S16x4096x3x1, .i1⟩
  | 123 => ⟨S_, .i32⟩
  | 124 => ⟨S16x4096x3x1, .i32⟩
  | 125 => ⟨S16x4096x3x1, .i32⟩
  | 126 => ⟨S16x4096x3x1, .i32⟩
  | 127 => ⟨S16x4096x3x3, .f32⟩
  | _ => ⟨S16x4096x14x3, .f32⟩

abbrev hbmTy0_5 (i : Nat) : BufTy := match i % 128 with
  | 0 => ⟨S16x4096x1x3, .f32⟩
  | 1 => ⟨S16x4096x3, .f32⟩
  | 2 => ⟨S16x4096x1x3, .f32⟩
  | 3 => ⟨S16x4096x3, .f32⟩
  | 4 => ⟨S16x4096x1x3, .f32⟩
  | 5 => ⟨S16x4096x3, .f32⟩
  | 6 => ⟨S16x4096x1, .f32⟩
  | 7 => ⟨S16x4096, .f32⟩
  | 8 => ⟨S16x4096x1, .f32⟩
  | 9 => ⟨S16x4096, .f32⟩
  | 10 => ⟨S16x4096x1, .f32⟩
  | 11 => ⟨S16x4096, .f32⟩
  | 12 => ⟨S16x4096x3, .f32⟩
  | 13 => ⟨S16x4096x3, .f32⟩
  | 14 => ⟨S_, .f32⟩
  | 15 => ⟨S16x4096, .f32⟩
  | 16 => ⟨S16x4096x1, .f32⟩
  | 17 => ⟨S_, .f32⟩
  | 18 => ⟨S16x4096x1, .f32⟩
  | 19 => ⟨S16x4096x1, .f32⟩
  | 20 => ⟨S16x4096x1, .f32⟩
  | 21 => ⟨S16x4096x3, .f32⟩
  | 22 => ⟨S16x4096x3, .f32⟩
  | 23 => ⟨S16x4096x3, .f32⟩
  | 24 => ⟨S16x4096x1, .f32⟩
  | 25 => ⟨S16x4096x1, .f32⟩
  | 26 => ⟨S16x4096x1, .f32⟩
  | 27 => ⟨S16x4096x1, .f32⟩
  | 28 => ⟨S16x4096x1, .f32⟩
  | 29 => ⟨S16x4096x1, .f32⟩
  | 30 => ⟨S16x4096x1, .f32⟩
  | 31 => ⟨S16x4096x1, .f32⟩
  | 32 => ⟨S16x4096x1, .f32⟩
  | 33 => ⟨S16x4096x1, .f32⟩
  | 34 => ⟨S16x4096x1, .f32⟩
  | 35 => ⟨S16x4096x1, .f32⟩
  | 36 => ⟨S16x4096x1, .f32⟩
  | 37 => ⟨S16x4096x1, .f32⟩
  | 38 => ⟨S16x4096x1, .f32⟩
  | 39 => ⟨S16x4096x3, .f32⟩
  | 40 => ⟨S16x4096x3, .f32⟩
  | 41 => ⟨S_, .f32⟩
  | 42 => ⟨S16x4096, .f32⟩
  | 43 => ⟨S16x4096x1, .f32⟩
  | 44 => ⟨S_, .f32⟩
  | 45 => ⟨S16x4096x1, .f32⟩
  | 46 => ⟨S16x4096x1, .f32⟩
  | 47 => ⟨S16x4096x1, .f32⟩
  | 48 => ⟨S16x4096x3, .f32⟩
  | 49 => ⟨S16x4096x3, .f32⟩
  | 50 => ⟨S16x4096x1, .f32⟩
  | 51 => ⟨S16x4096x1, .f32⟩
  | 52 => ⟨S16x4096x1, .f32⟩
  | 53 => ⟨S16x4096x1, .f32⟩
  | 54 => ⟨S16x4096x1, .f32⟩
  | 55 => ⟨S16x4096x1, .f32⟩
  | 56 => ⟨S16x4096x1, .f32⟩
  | 57 => ⟨S16x4096x1, .f32⟩
  | 58 => ⟨S16x4096x1, .f32⟩
  | 59 => ⟨S16x4096x1, .f32⟩
  | 60 => ⟨S16x4096x1, .f32⟩
  | 61 => ⟨S16x4096x1, .f32⟩
  | 62 => ⟨S16x4096x1, .f32⟩
  | 63 => ⟨S16x4096x1, .f32⟩
  | 64 => ⟨S16x4096x1, .f32⟩
  | 65 => ⟨S16x4096x3, .f32⟩
  | 66 => ⟨S16x4096, .f32⟩
  | 67 => ⟨S16x4096x1, .f32⟩
  | 68 => ⟨S16x4096x1, .f32⟩
  | 69 => ⟨S16x4096x3, .f32⟩
  | 70 => ⟨S16x4096x3, .f32⟩
  | 71 => ⟨S16x4096, .f32⟩
  | 72 => ⟨S16x4096x1, .f32⟩
  | 73 => ⟨S16x4096, .f32⟩
  | 74 => ⟨S16x4096x1, .f32⟩
  | 75 => ⟨S16x4096x1, .f32⟩
  | 76 => ⟨S16x4096x3, .f32⟩
  | 77 => ⟨S16x4096x3, .f32⟩
  | 78 => ⟨S16x4096x3, .f32⟩
  | 79 => ⟨S16x4096, .f32⟩
  | 80 => ⟨S16x4096x1, .f32⟩
  | 81 => ⟨S16x4096, .f32⟩
  | 82 => ⟨S16x4096x1, .f32⟩
  | 83 => ⟨S16x4096x1, .f32⟩
  | 84 => ⟨S16x4096x3, .f32⟩
  | 85 => ⟨S16x4096x3, .f32⟩
  | 86 => ⟨S16x4096x3, .f32⟩
  | 87 => ⟨S16x4096x1, .f32⟩
  | 88 => ⟨S16x4096x3, .f32⟩
  | 89 => ⟨S16x4096x3, .f32⟩
  | 90 => ⟨S16x4096x3, .f32⟩
  | 91 => ⟨S_, .i32⟩
  | 92 => ⟨S1x1x14x1, .i32⟩
  | 93 => ⟨S1x1x14x1, .i1⟩
  | 94 => ⟨S16x4096x1x3, .f32⟩
  | 95 => ⟨S16x4096x14x3, .i1⟩
  | 96 => ⟨S16x4096x14x3, .f32⟩
  | 97 => ⟨S16x4096x14x3, .f32⟩
  | 98 => ⟨S16x4096x1x3, .i32⟩
  | 99 => ⟨S16x4096x3, .i32⟩
  | 100 => ⟨S16x4096x3x1, .i32⟩
  | 101 => ⟨S_, .i32⟩
  | 102 => ⟨S16x4096x3x1, .i32⟩
  | 103 => ⟨S16x4096x3x1, .i1⟩
  | 104 => ⟨S_, .i32⟩
  | 105 => ⟨S16x4096x3x1, .i32⟩
  | 106 => ⟨S16x4096x3x1, .i32⟩
  | 107 => ⟨S16x4096x3x1, .i32⟩
  | 108 => ⟨S16x4096x3x3, .f32⟩
  | 109 => ⟨S16x4096x1x3, .f32⟩
  | 110 => ⟨S16x4096x3, .f32⟩
  | 111 => ⟨S16x4096x1x3, .f32⟩
  | 112 => ⟨S16x4096x3, .f32⟩
  | 113 => ⟨S16x4096x1x3, .f32⟩
  | 114 => ⟨S16x4096x3, .f32⟩
  | 115 => ⟨S16x4096x1, .f32⟩
  | 116 => ⟨S16x4096, .f32⟩
  | 117 => ⟨S16x4096x1, .f32⟩
  | 118 => ⟨S16x4096, .f32⟩
  | 119 => ⟨S16x4096x1, .f32⟩
  | 120 => ⟨S16x4096, .f32⟩
  | 121 => ⟨S16x4096x3, .f32⟩
  | 122 => ⟨S16x4096x3, .f32⟩
  | 123 => ⟨S_, .f32⟩
  | 124 => ⟨S16x4096, .f32⟩
  | 125 => ⟨S16x4096x1, .f32⟩
  | 126 => ⟨S_, .f32⟩
  | 127 => ⟨S16x4096x1, .f32⟩
  | _ => ⟨S16x4096x14x3, .f32⟩

abbrev hbmTy0_6 (i : Nat) : BufTy := match i % 128 with
  | 0 => ⟨S16x4096x1, .f32⟩
  | 1 => ⟨S16x4096x1, .f32⟩
  | 2 => ⟨S16x4096x3, .f32⟩
  | 3 => ⟨S16x4096x3, .f32⟩
  | 4 => ⟨S16x4096x3, .f32⟩
  | 5 => ⟨S16x4096x1, .f32⟩
  | 6 => ⟨S16x4096x1, .f32⟩
  | 7 => ⟨S16x4096x1, .f32⟩
  | 8 => ⟨S16x4096x1, .f32⟩
  | 9 => ⟨S16x4096x1, .f32⟩
  | 10 => ⟨S16x4096x1, .f32⟩
  | 11 => ⟨S16x4096x1, .f32⟩
  | 12 => ⟨S16x4096x1, .f32⟩
  | 13 => ⟨S16x4096x1, .f32⟩
  | 14 => ⟨S16x4096x1, .f32⟩
  | 15 => ⟨S16x4096x1, .f32⟩
  | 16 => ⟨S16x4096x1, .f32⟩
  | 17 => ⟨S16x4096x1, .f32⟩
  | 18 => ⟨S16x4096x1, .f32⟩
  | 19 => ⟨S16x4096x1, .f32⟩
  | 20 => ⟨S16x4096x3, .f32⟩
  | 21 => ⟨S16x4096x3, .f32⟩
  | 22 => ⟨S_, .f32⟩
  | 23 => ⟨S16x4096, .f32⟩
  | 24 => ⟨S16x4096x1, .f32⟩
  | 25 => ⟨S_, .f32⟩
  | 26 => ⟨S16x4096x1, .f32⟩
  | 27 => ⟨S16x4096x1, .f32⟩
  | 28 => ⟨S16x4096x1, .f32⟩
  | 29 => ⟨S16x4096x3, .f32⟩
  | 30 => ⟨S16x4096x3, .f32⟩
  | 31 => ⟨S16x4096x1, .f32⟩
  | 32 => ⟨S16x4096x1, .f32⟩
  | 33 => ⟨S16x4096x1, .f32⟩
  | 34 => ⟨S16x4096x1, .f32⟩
  | 35 => ⟨S16x4096x1, .f32⟩
  | 36 => ⟨S16x4096x1, .f32⟩
  | 37 => ⟨S16x4096x1, .f32⟩
  | 38 => ⟨S16x4096x1, .f32⟩
  | 39 => ⟨S16x4096x1, .f32⟩
  | 40 => ⟨S16x4096x1, .f32⟩
  | 41 => ⟨S16x4096x1, .f32⟩
  | 42 => ⟨S16x4096x1, .f32⟩
  | 43 => ⟨S16x4096x1, .f32⟩
  | 44 => ⟨S16x4096x1, .f32⟩
  | 45 => ⟨S16x4096x1, .f32⟩
  | 46 => ⟨S16x4096x3, .f32⟩
  | 47 => ⟨S16x4096, .f32⟩
  | 48 => ⟨S16x4096x1, .f32⟩
  | 49 => ⟨S16x4096x1, .f32⟩
  | 50 => ⟨S16x4096x3, .f32⟩
  | 51 => ⟨S16x4096x3, .f32⟩
  | 52 => ⟨S16x4096, .f32⟩
  | 53 => ⟨S16x4096x1, .f32⟩
  | 54 => ⟨S16x4096, .f32⟩
  | 55 => ⟨S16x4096x1, .f32⟩
  | 56 => ⟨S16x4096x1, .f32⟩
  | 57 => ⟨S16x4096x3, .f32⟩
  | 58 => ⟨S16x4096x3, .f32⟩
  | 59 => ⟨S16x4096x3, .f32⟩
  | 60 => ⟨S16x4096, .f32⟩
  | 61 => ⟨S16x4096x1, .f32⟩
  | 62 => ⟨S16x4096, .f32⟩
  | 63 => ⟨S16x4096x1, .f32⟩
  | 64 => ⟨S16x4096x1, .f32⟩
  | 65 => ⟨S16x4096x3, .f32⟩
  | 66 => ⟨S16x4096x3, .f32⟩
  | 67 => ⟨S16x4096x3, .f32⟩
  | 68 => ⟨S16x4096x1, .f32⟩
  | 69 => ⟨S16x4096x3, .f32⟩
  | 70 => ⟨S16x4096x3, .f32⟩
  | 71 => ⟨S16x4096x3, .f32⟩
  | 72 => ⟨S_, .i32⟩
  | 73 => ⟨S1x1x14x1, .i32⟩
  | 74 => ⟨S1x1x14x1, .i1⟩
  | 75 => ⟨S16x4096x1x3, .f32⟩
  | 76 => ⟨S16x4096x14x3, .i1⟩
  | 77 => ⟨S16x4096x14x3, .f32⟩
  | 78 => ⟨S16x4096x14x3, .f32⟩
  | 79 => ⟨S16x4096x1x3, .i32⟩
  | 80 => ⟨S16x4096x3, .i32⟩
  | 81 => ⟨S16x4096x3x1, .i32⟩
  | 82 => ⟨S_, .i32⟩
  | 83 => ⟨S16x4096x3x1, .i32⟩
  | 84 => ⟨S16x4096x3x1, .i1⟩
  | 85 => ⟨S_, .i32⟩
  | 86 => ⟨S16x4096x3x1, .i32⟩
  | 87 => ⟨S16x4096x3x1, .i32⟩
  | 88 => ⟨S16x4096x3x1, .i32⟩
  | 89 => ⟨S16x4096x3x3, .f32⟩
  | 90 => ⟨S16x4096x1x3, .f32⟩
  | 91 => ⟨S16x4096x3, .f32⟩
  | 92 => ⟨S16x4096x1x3, .f32⟩
  | 93 => ⟨S16x4096x3, .f32⟩
  | 94 => ⟨S16x4096x1x3, .f32⟩
  | 95 => ⟨S16x4096x3, .f32⟩
  | 96 => ⟨S16x4096x1, .f32⟩
  | 97 => ⟨S16x4096, .f32⟩
  | 98 => ⟨S16x4096x1, .f32⟩
  | 99 => ⟨S16x4096, .f32⟩
  | 100 => ⟨S16x4096x1, .f32⟩
  | 101 => ⟨S16x4096, .f32⟩
  | 102 => ⟨S16x4096x3, .f32⟩
  | 103 => ⟨S16x4096x3, .f32⟩
  | 104 => ⟨S_, .f32⟩
  | 105 => ⟨S16x4096, .f32⟩
  | 106 => ⟨S16x4096x1, .f32⟩
  | 107 => ⟨S_, .f32⟩
  | 108 => ⟨S16x4096x1, .f32⟩
  | 109 => ⟨S16x4096x1, .f32⟩
  | 110 => ⟨S16x4096x1, .f32⟩
  | 111 => ⟨S16x4096x3, .f32⟩
  | 112 => ⟨S16x4096x3, .f32⟩
  | 113 => ⟨S16x4096x3, .f32⟩
  | 114 => ⟨S16x4096x1, .f32⟩
  | 115 => ⟨S16x4096x1, .f32⟩
  | 116 => ⟨S16x4096x1, .f32⟩
  | 117 => ⟨S16x4096x1, .f32⟩
  | 118 => ⟨S16x4096x1, .f32⟩
  | 119 => ⟨S16x4096x1, .f32⟩
  | 120 => ⟨S16x4096x1, .f32⟩
  | 121 => ⟨S16x4096x1, .f32⟩
  | 122 => ⟨S16x4096x1, .f32⟩
  | 123 => ⟨S16x4096x1, .f32⟩
  | 124 => ⟨S16x4096x1, .f32⟩
  | 125 => ⟨S16x4096x1, .f32⟩
  | 126 => ⟨S16x4096x1, .f32⟩
  | 127 => ⟨S16x4096x1, .f32⟩
  | _ => ⟨S16x4096x14x3, .f32⟩

abbrev hbmTy0_7 (i : Nat) : BufTy := match i % 128 with
  | 0 => ⟨S16x4096x1, .f32⟩
  | 1 => ⟨S16x4096x3, .f32⟩
  | 2 => ⟨S16x4096x3, .f32⟩
  | 3 => ⟨S_, .f32⟩
  | 4 => ⟨S16x4096, .f32⟩
  | 5 => ⟨S16x4096x1, .f32⟩
  | 6 => ⟨S_, .f32⟩
  | 7 => ⟨S16x4096x1, .f32⟩
  | 8 => ⟨S16x4096x1, .f32⟩
  | 9 => ⟨S16x4096x1, .f32⟩
  | 10 => ⟨S16x4096x3, .f32⟩
  | 11 => ⟨S16x4096x3, .f32⟩
  | 12 => ⟨S16x4096x1, .f32⟩
  | 13 => ⟨S16x4096x1, .f32⟩
  | 14 => ⟨S16x4096x1, .f32⟩
  | 15 => ⟨S16x4096x1, .f32⟩
  | 16 => ⟨S16x4096x1, .f32⟩
  | 17 => ⟨S16x4096x1, .f32⟩
  | 18 => ⟨S16x4096x1, .f32⟩
  | 19 => ⟨S16x4096x1, .f32⟩
  | 20 => ⟨S16x4096x1, .f32⟩
  | 21 => ⟨S16x4096x1, .f32⟩
  | 22 => ⟨S16x4096x1, .f32⟩
  | 23 => ⟨S16x4096x1, .f32⟩
  | 24 => ⟨S16x4096x1, .f32⟩
  | 25 => ⟨S16x4096x1, .f32⟩
  | 26 => ⟨S16x4096x1, .f32⟩
  | 27 => ⟨S16x4096x3, .f32⟩
  | 28 => ⟨S16x4096, .f32⟩
  | 29 => ⟨S16x4096x1, .f32⟩
  | 30 => ⟨S16x4096x1, .f32⟩
  | 31 => ⟨S16x4096x3, .f32⟩
  | 32 => ⟨S16x4096x3, .f32⟩
  | 33 => ⟨S16x4096, .f32⟩
  | 34 => ⟨S16x4096x1, .f32⟩
  | 35 => ⟨S16x4096, .f32⟩
  | 36 => ⟨S16x4096x1, .f32⟩
  | 37 => ⟨S16x4096x1, .f32⟩
  | 38 => ⟨S16x4096x3, .f32⟩
  | 39 => ⟨S16x4096x3, .f32⟩
  | 40 => ⟨S16x4096x3, .f32⟩
  | 41 => ⟨S16x4096, .f32⟩
  | 42 => ⟨S16x4096x1, .f32⟩
  | 43 => ⟨S16x4096, .f32⟩
  | 44 => ⟨S16x4096x1, .f32⟩
  | 45 => ⟨S16x4096x1, .f32⟩
  | 46 => ⟨S16x4096x3, .f32⟩
  | 47 => ⟨S16x4096x3, .f32⟩
  | 48 => ⟨S16x4096x3, .f32⟩
  | 49 => ⟨S16x4096x1, .f32⟩
  | 50 => ⟨S16x4096x3, .f32⟩
  | 51 => ⟨S16x4096x3, .f32⟩
  | 52 => ⟨S16x4096x3, .f32⟩
  | 53 => ⟨S_, .i32⟩
  | 54 => ⟨S1x1x14x1, .i32⟩
  | 55 => ⟨S1x1x14x1, .i1⟩
  | 56 => ⟨S16x4096x1x3, .f32⟩
  | 57 => ⟨S16x4096x14x3, .i1⟩
  | 58 => ⟨S16x4096x14x3, .f32⟩
  | 59 => ⟨S16x4096x14x3, .f32⟩
  | 60 => ⟨S16x4096x1x3, .i32⟩
  | 61 => ⟨S16x4096x3, .i32⟩
  | 62 => ⟨S16x4096x3x1, .i32⟩
  | 63 => ⟨S_, .i32⟩
  | 64 => ⟨S16x4096x3x1, .i32⟩
  | 65 => ⟨S16x4096x3x1, .i1⟩
  | 66 => ⟨S_, .i32⟩
  | 67 => ⟨S16x4096x3x1, .i32⟩
  | 68 => ⟨S16x4096x3x1, .i32⟩
  | 69 => ⟨S16x4096x3x1, .i32⟩
  | 70 => ⟨S16x4096x3x3, .f32⟩
  | 71 => ⟨S16x4096x1x3, .f32⟩
  | 72 => ⟨S16x4096x3, .f32⟩
  | 73 => ⟨S16x4096x1x3, .f32⟩
  | 74 => ⟨S16x4096x3, .f32⟩
  | 75 => ⟨S16x4096x1x3, .f32⟩
  | 76 => ⟨S16x4096x3, .f32⟩
  | 77 => ⟨S16x4096x1, .f32⟩
  | 78 => ⟨S16x4096, .f32⟩
  | 79 => ⟨S16x4096x1, .f32⟩
  | 80 => ⟨S16x4096, .f32⟩
  | 81 => ⟨S16x4096x1, .f32⟩
  | 82 => ⟨S16x4096, .f32⟩
  | 83 => ⟨S16x4096x3, .f32⟩
  | 84 => ⟨S16x4096x3, .f32⟩
  | 85 => ⟨S_, .f32⟩
  | 86 => ⟨S16x4096, .f32⟩
  | 87 => ⟨S16x4096x1, .f32⟩
  | 88 => ⟨S_, .f32⟩
  | 89 => ⟨S16x4096x1, .f32⟩
  | 90 => ⟨S16x4096x1, .f32⟩
  | 91 => ⟨S16x4096x1, .f32⟩
  | 92 => ⟨S16x4096x3, .f32⟩
  | 93 => ⟨S16x4096x3, .f32⟩
  | 94 => ⟨S16x4096x3, .f32⟩
  | 95 => ⟨S16x4096x1, .f32⟩
  | 96 => ⟨S16x4096x1, .f32⟩
  | 97 => ⟨S16x4096x1, .f32⟩
  | 98 => ⟨S16x4096x1, .f32⟩
  | 99 => ⟨S16x4096x1, .f32⟩
  | 100 => ⟨S16x4096x1, .f32⟩
  | 101 => ⟨S16x4096x1, .f32⟩
  | 102 => ⟨S16x4096x1, .f32⟩
  | 103 => ⟨S16x4096x1, .f32⟩
  | 104 => ⟨S16x4096x1, .f32⟩
  | 105 => ⟨S16x4096x1, .f32⟩
  | 106 => ⟨S16x4096x1, .f32⟩
  | 107 => ⟨S16x4096x1, .f32⟩
  | 108 => ⟨S16x4096x1, .f32⟩
  | 109 => ⟨S16x4096x1, .f32⟩
  | 110 => ⟨S16x4096x3, .f32⟩
  | 111 => ⟨S16x4096x3, .f32⟩
  | 112 => ⟨S_, .f32⟩
  | 113 => ⟨S16x4096, .f32⟩
  | 114 => ⟨S16x4096x1, .f32⟩
  | 115 => ⟨S_, .f32⟩
  | 116 => ⟨S16x4096x1, .f32⟩
  | 117 => ⟨S16x4096x1, .f32⟩
  | 118 => ⟨S16x4096x1, .f32⟩
  | 119 => ⟨S16x4096x3, .f32⟩
  | 120 => ⟨S16x4096x3, .f32⟩
  | 121 => ⟨S16x4096x1, .f32⟩
  | 122 => ⟨S16x4096x1, .f32⟩
  | 123 => ⟨S16x4096x1, .f32⟩
  | 124 => ⟨S16x4096x1, .f32⟩
  | 125 => ⟨S16x4096x1, .f32⟩
  | 126 => ⟨S16x4096x1, .f32⟩
  | 127 => ⟨S16x4096x1, .f32⟩
  | _ => ⟨S16x4096x14x3, .f32⟩

abbrev hbmTy0_8 (i : Nat) : BufTy := match i % 128 with
  | 0 => ⟨S16x4096x1, .f32⟩
  | 1 => ⟨S16x4096x1, .f32⟩
  | 2 => ⟨S16x4096x1, .f32⟩
  | 3 => ⟨S16x4096x1, .f32⟩
  | 4 => ⟨S16x4096x1, .f32⟩
  | 5 => ⟨S16x4096x1, .f32⟩
  | 6 => ⟨S16x4096x1, .f32⟩
  | 7 => ⟨S16x4096x1, .f32⟩
  | 8 => ⟨S16x4096x3, .f32⟩
  | 9 => ⟨S16x4096, .f32⟩
  | 10 => ⟨S16x4096x1, .f32⟩
  | 11 => ⟨S16x4096x1, .f32⟩
  | 12 => ⟨S16x4096x3, .f32⟩
  | 13 => ⟨S16x4096x3, .f32⟩
  | 14 => ⟨S16x4096, .f32⟩
  | 15 => ⟨S16x4096x1, .f32⟩
  | 16 => ⟨S16x4096, .f32⟩
  | 17 => ⟨S16x4096x1, .f32⟩
  | 18 => ⟨S16x4096x1, .f32⟩
  | 19 => ⟨S16x4096x3, .f32⟩
  | 20 => ⟨S16x4096x3, .f32⟩
  | 21 => ⟨S16x4096x3, .f32⟩
  | 22 => ⟨S16x4096, .f32⟩
  | 23 => ⟨S16x4096x1, .f32⟩
  | 24 => ⟨S16x4096, .f32⟩
  | 25 => ⟨S16x4096x1, .f32⟩
  | 26 => ⟨S16x4096x1, .f32⟩
  | 27 => ⟨S16x4096x3, .f32⟩
  | 28 => ⟨S16x4096x3, .f32⟩
  | 29 => ⟨S16x4096x3, .f32⟩
  | 30 => ⟨S16x4096x1, .f32⟩
  | 31 => ⟨S16x4096x3, .f32⟩
  | 32 => ⟨S16x4096x3, .f32⟩
  | 33 => ⟨S16x4096x3, .f32⟩
  | 34 => ⟨S_, .i32⟩
  | 35 => ⟨S1x1x14x1, .i32⟩
  | 36 => ⟨S1x1x14x1, .i1⟩
  | 37 => ⟨S16x4096x1x3, .f32⟩
  | 38 => ⟨S16x4096x14x3, .i1⟩
  | 39 => ⟨S16x4096x14x3, .f32⟩
  | 40 => ⟨S16x4096x14x3, .f32⟩
  | 41 => ⟨S16x4096x1x3, .i32⟩
  | 42 => ⟨S16x4096x3, .i32⟩
  | 43 => ⟨S16x4096x3x1, .i32⟩
  | 44 => ⟨S_, .i32⟩
  | 45 => ⟨S16x4096x3x1, .i32⟩
  | 46 => ⟨S16x4096x3x1, .i1⟩
  | 47 => ⟨S_, .i32⟩
  | 48 => ⟨S16x4096x3x1, .i32⟩
  | 49 => ⟨S16x4096x3x1, .i32⟩
  | 50 => ⟨S16x4096x3x1, .i32⟩
  | 51 => ⟨S16x4096x3x3, .f32⟩
  | 52 => ⟨S16x4096x1x3, .f32⟩
  | 53 => ⟨S16x4096x3, .f32⟩
  | 54 => ⟨S16x4096x1x3, .f32⟩
  | 55 => ⟨S16x4096x3, .f32⟩
  | 56 => ⟨S16x4096x1x3, .f32⟩
  | 57 => ⟨S16x4096x3, .f32⟩
  | 58 => ⟨S16x4096x1, .f32⟩
  | 59 => ⟨S16x4096, .f32⟩
  | 60 => ⟨S16x4096x1, .f32⟩
  | 61 => ⟨S16x4096, .f32⟩
  | 62 => ⟨S16x4096x1, .f32⟩
  | 63 => ⟨S16x4096, .f32⟩
  | 64 => ⟨S16x4096x3, .f32⟩
  | 65 => ⟨S16x4096x3, .f32⟩
  | 66 => ⟨S_, .f32⟩
  | 67 => ⟨S16x4096, .f32⟩
  | 68 => ⟨S16x4096x1, .f32⟩
  | 69 => ⟨S_, .f32⟩
  | 70 => ⟨S16x4096x1, .f32⟩
  | 71 => ⟨S16x4096x1, .f32⟩
  | 72 => ⟨S16x4096x1, .f32⟩
  | 73 => ⟨S16x4096x3, .f32⟩
  | 74 => ⟨S16x4096x3, .f32⟩
  | 75 => ⟨S16x4096x3, .f32⟩
  | 76 => ⟨S16x4096x1, .f32⟩
  | 77 => ⟨S16x4096x1, .f32⟩
  | 78 => ⟨S16x4096x1, .f32⟩
  | 79 => ⟨S16x4096x1, .f32⟩
  | 80 => ⟨S16x4096x1, .f32⟩
  | 81 => ⟨S16x4096x1, .f32⟩
  | 82 => ⟨S16x4096x1, .f32⟩
  | 83 => ⟨S16x4096x1, .f32⟩
  | 84 => ⟨S16x4096x1, .f32⟩
  | 85 => ⟨S16x4096x1, .f32⟩
  | 86 => ⟨S16x4096x1, .f32⟩
  | 87 => ⟨S16x4096x1, .f32⟩
  | 88 => ⟨S16x4096x1, .f32⟩
  | 89 => ⟨S16x4096x1, .f32⟩
  | 90 => ⟨S16x4096x1, .f32⟩
  | 91 => ⟨S16x4096x3, .f32⟩
  | 92 => ⟨S16x4096x3, .f32⟩
  | 93 => ⟨S_, .f32⟩
  | 94 => ⟨S16x4096, .f32⟩
  | 95 => ⟨S16x4096x1, .f32⟩
  | 96 => ⟨S_, .f32⟩
  | 97 => ⟨S16x4096x1, .f32⟩
  | 98 => ⟨S16x4096x1, .f32⟩
  | 99 => ⟨S16x4096x1, .f32⟩
  | 100 => ⟨S16x4096x3, .f32⟩
  | 101 => ⟨S16x4096x3, .f32⟩
  | 102 => ⟨S16x4096x1, .f32⟩
  | 103 => ⟨S16x4096x1, .f32⟩
  | 104 => ⟨S16x4096x1, .f32⟩
  | 105 => ⟨S16x4096x1, .f32⟩
  | 106 => ⟨S16x4096x1, .f32⟩
  | 107 => ⟨S16x4096x1, .f32⟩
  | 108 => ⟨S16x4096x1, .f32⟩
  | 109 => ⟨S16x4096x1, .f32⟩
  | 110 => ⟨S16x4096x1, .f32⟩
  | 111 => ⟨S16x4096x1, .f32⟩
  | 112 => ⟨S16x4096x1, .f32⟩
  | 113 => ⟨S16x4096x1, .f32⟩
  | 114 => ⟨S16x4096x1, .f32⟩
  | 115 => ⟨S16x4096x1, .f32⟩
  | 116 => ⟨S16x4096x1, .f32⟩
  | 117 => ⟨S16x4096x3, .f32⟩
  | 118 => ⟨S16x4096, .f32⟩
  | 119 => ⟨S16x4096x1, .f32⟩
  | 120 => ⟨S16x4096x1, .f32⟩
  | 121 => ⟨S16x4096x3, .f32⟩
  | 122 => ⟨S16x4096x3, .f32⟩
  | 123 => ⟨S16x4096, .f32⟩
  | 124 => ⟨S16x4096x1, .f32⟩
  | 125 => ⟨S16x4096, .f32⟩
  | 126 => ⟨S16x4096x1, .f32⟩
  | 127 => ⟨S16x4096x1, .f32⟩
  | _ => ⟨S16x4096x14x3, .f32⟩

abbrev hbmTy0_9 (i : Nat) : BufTy := match i % 128 with
  | 0 => ⟨S16x4096x3, .f32⟩
  | 1 => ⟨S16x4096x3, .f32⟩
  | 2 => ⟨S16x4096x3, .f32⟩
  | 3 => ⟨S16x4096, .f32⟩
  | 4 => ⟨S16x4096x1, .f32⟩
  | 5 => ⟨S16x4096, .f32⟩
  | 6 => ⟨S16x4096x1, .f32⟩
  | 7 => ⟨S16x4096x1, .f32⟩
  | 8 => ⟨S16x4096x3, .f32⟩
  | 9 => ⟨S16x4096x3, .f32⟩
  | 10 => ⟨S16x4096x3, .f32⟩
  | 11 => ⟨S16x4096x1, .f32⟩
  | 12 => ⟨S16x4096x3, .f32⟩
  | 13 => ⟨S16x4096x3, .f32⟩
  | 14 => ⟨S16x4096x3, .f32⟩
  | 15 => ⟨S_, .i32⟩
  | 16 => ⟨S1x1x14x1, .i32⟩
  | 17 => ⟨S1x1x14x1, .i1⟩
  | 18 => ⟨S16x4096x1x3, .f32⟩
  | 19 => ⟨S16x4096x14x3, .i1⟩
  | 20 => ⟨S16x4096x14x3, .f32⟩
  | 21 => ⟨S16x4096x14x3, .f32⟩
  | 22 => ⟨S16x4096x1x3, .i32⟩
  | 23 => ⟨S16x4096x3, .i32⟩
  | 24 => ⟨S16x4096x3x1, .i32⟩
  | 25 => ⟨S_, .i32⟩
  | 26 => ⟨S16x4096x3x1, .i32⟩
  | 27 => ⟨S16x4096x3x1, .i1⟩
  | 28 => ⟨S_, .i32⟩
  | 29 => ⟨S16x4096x3x1, .i32⟩
  | 30 => ⟨S16x4096x3x1, .i32⟩
  | 31 => ⟨S16x4096x3x1, .i32⟩
  | 32 => ⟨S16x4096x3x3, .f32⟩
  | 33 => ⟨S16x4096x1x3, .f32⟩
  | 34 => ⟨S16x4096x3, .f32⟩
  | 35 => ⟨S16x4096x1x3, .f32⟩
  | 36 => ⟨S16x4096x3, .f32⟩
  | 37 => ⟨S16x4096x1x3, .f32⟩
  | 38 => ⟨S16x4096x3, .f32⟩
  | 39 => ⟨S16x4096x1, .f32⟩
  | 40 => ⟨S16x4096, .f32⟩
  | 41 => ⟨S16x4096x1, .f32⟩
  | 42 => ⟨S16x4096, .f32⟩
  | 43 => ⟨S16x4096x1, .f32⟩
  | 44 => ⟨S16x4096, .f32⟩
  | 45 => ⟨S16x4096x3, .f32⟩
  | 46 => ⟨S16x4096x3, .f32⟩
  | 47 => ⟨S_, .f32⟩
  | 48 => ⟨S16x4096, .f32⟩
  | 49 => ⟨S16x4096x1, .f32⟩
  | 50 => ⟨S_, .f32⟩
  | 51 => ⟨S16x4096x1, .f32⟩
  | 52 => ⟨S16x4096x1, .f32⟩
  | 53 => ⟨S16x4096x1, .f32⟩
  | 54 => ⟨S16x4096x3, .f32⟩
  | 55 => ⟨S16x4096x3, .f32⟩
  | 56 => ⟨S16x4096x3, .f32⟩
  | 57 => ⟨S16x4096x1, .f32⟩
  | 58 => ⟨S16x4096x1, .f32⟩
  | 59 => ⟨S16x4096x1, .f32⟩
  | 60 => ⟨S16x4096x1, .f32⟩
  | 61 => ⟨S16x4096x1, .f32⟩
  | 62 => ⟨S16x4096x1, .f32⟩
  | 63 => ⟨S16x4096x1, .f32⟩
  | 64 => ⟨S16x4096x1, .f32⟩
  | 65 => ⟨S16x4096x1, .f32⟩
  | 66 => ⟨S16x4096x1, .f32⟩
  | 67 => ⟨S16x4096x1, .f32⟩
  | 68 => ⟨S16x4096x1, .f32⟩
  | 69 => ⟨S16x4096x1, .f32⟩
  | 70 => ⟨S16x4096x1, .f32⟩
  | 71 => ⟨S16x4096x1, .f32⟩
  | 72 => ⟨S16x4096x3, .f32⟩
  | 73 => ⟨S16x4096x3, .f32⟩
  | 74 => ⟨S_, .f32⟩
  | 75 => ⟨S16x4096, .f32⟩
  | 76 => ⟨S16x4096x1, .f32⟩
  | 77 => ⟨S_, .f32⟩
  | 78 => ⟨S16x4096x1, .f32⟩
  | 79 => ⟨S16x4096x1, .f32⟩
  | 80 => ⟨S16x4096x1, .f32⟩
  | 81 => ⟨S16x4096x3, .f32⟩
  | 82 => ⟨S16x4096x3, .f32⟩
  | 83 => ⟨S16x4096x1, .f32⟩
  | 84 => ⟨S16x4096x1, .f32⟩
  | 85 => ⟨S16x4096x1, .f32⟩
  | 86 => ⟨S16x4096x1, .f32⟩
  | 87 => ⟨S16x4096x1, .f32⟩
  | 88 => ⟨S16x4096x1, .f32⟩
  | 89 => ⟨S16x4096x1, .f32⟩
  | 90 => ⟨S16x4096x1, .f32⟩
  | 91 => ⟨S16x4096x1, .f32⟩
  | 92 => ⟨S16x4096x1, .f32⟩
  | 93 => ⟨S16x4096x1, .f32⟩
  | 94 => ⟨S16x4096x1, .f32⟩
  | 95 => ⟨S16x4096x1, .f32⟩
  | 96 => ⟨S16x4096x1, .f32⟩
  | 97 => ⟨S16x4096x1, .f32⟩
  | 98 => ⟨S16x4096x3, .f32⟩
  | 99 => ⟨S16x4096, .f32⟩
  | 100 => ⟨S16x4096x1, .f32⟩
  | 101 => ⟨S16x4096x1, .f32⟩
  | 102 => ⟨S16x4096x3, .f32⟩
  | 103 => ⟨S16x4096x3, .f32⟩
  | 104 => ⟨S16x4096, .f32⟩
  | 105 => ⟨S16x4096x1, .f32⟩
  | 106 => ⟨S16x4096, .f32⟩
  | 107 => ⟨S16x4096x1, .f32⟩
  | 108 => ⟨S16x4096x1, .f32⟩
  | 109 => ⟨S16x4096x3, .f32⟩
  | 110 => ⟨S16x4096x3, .f32⟩
  | 111 => ⟨S16x4096x3, .f32⟩
  | 112 => ⟨S16x4096, .f32⟩
  | 113 => ⟨S16x4096x1, .f32⟩
  | 114 => ⟨S16x4096, .f32⟩
  | 115 => ⟨S16x4096x1, .f32⟩
  | 116 => ⟨S16x4096x1, .f32⟩
  | 117 => ⟨S16x4096x3, .f32⟩
  | 118 => ⟨S16x4096x3, .f32⟩
  | 119 => ⟨S16x4096x3, .f32⟩
  | 120 => ⟨S16x4096x1, .f32⟩
  | 121 => ⟨S16x4096x3, .f32⟩
  | 122 => ⟨S16x4096x3, .f32⟩
  | 123 => ⟨S16x4096x3, .f32⟩
  | 124 => ⟨S_, .i32⟩
  | 125 => ⟨S1x1x14x1, .i32⟩
  | 126 => ⟨S1x1x14x1, .i1⟩
  | 127 => ⟨S16x4096x1x3, .f32⟩
  | _ => ⟨S16x4096x14x3, .f32⟩

abbrev hbmTy0_10 (i : Nat) : BufTy := match i % 128 with
  | 0 => ⟨S16x4096x14x3, .i1⟩
  | 1 => ⟨S16x4096x14x3, .f32⟩
  | 2 => ⟨S16x4096x14x3, .f32⟩
  | 3 => ⟨S16x4096x1x3, .i32⟩
  | 4 => ⟨S16x4096x3, .i32⟩
  | 5 => ⟨S16x4096x3x1, .i32⟩
  | 6 => ⟨S_, .i32⟩
  | 7 => ⟨S16x4096x3x1, .i32⟩
  | 8 => ⟨S16x4096x3x1, .i1⟩
  | 9 => ⟨S_, .i32⟩
  | 10 => ⟨S16x4096x3x1, .i32⟩
  | 11 => ⟨S16x4096x3x1, .i32⟩
  | 12 => ⟨S16x4096x3x1, .i32⟩
  | 13 => ⟨S16x4096x3x3, .f32⟩
  | 14 => ⟨S16x4096x1x3, .f32⟩
  | 15 => ⟨S16x4096x3, .f32⟩
  | 16 => ⟨S16x4096x1x3, .f32⟩
  | 17 => ⟨S16x4096x3, .f32⟩
  | 18 => ⟨S16x4096x1x3, .f32⟩
  | 19 => ⟨S16x4096x3, .f32⟩
  | 20 => ⟨S16x4096x1, .f32⟩
  | 21 => ⟨S16x4096, .f32⟩
  | 22 => ⟨S16x4096x1, .f32⟩
  | 23 => ⟨S16x4096, .f32⟩
  | 24 => ⟨S16x4096x1, .f32⟩
  | 25 => ⟨S16x4096, .f32⟩
  | 26 => ⟨S16x4096x3, .f32⟩
  | 27 => ⟨S16x4096x3, .f32⟩
  | 28 => ⟨S_, .f32⟩
  | 29 => ⟨S16x4096, .f32⟩
  | 30 => ⟨S16x4096x1, .f32⟩
  | 31 => ⟨S_, .f32⟩
  | 32 => ⟨S16x4096x1, .f32⟩
  | 33 => ⟨S16x4096x1, .f32⟩
  | 34 => ⟨S16x4096x1, .f32⟩
  | 35 => ⟨S16x4096x3, .f32⟩
  | 36 => ⟨S16x4096x3, .f32⟩
  | 37 => ⟨S16x4096x3, .f32⟩
  | 38 => ⟨S16x4096x1, .f32⟩
  | 39 => ⟨S16x4096x1, .f32⟩
  | 40 => ⟨S16x4096x1, .f32⟩
  | 41 => ⟨S16x4096x1, .f32⟩
  | 42 => ⟨S16x4096x1, .f32⟩
  | 43 => ⟨S16x4096x1, .f32⟩
  | 44 => ⟨S16x4096x1, .f32⟩
  | 45 => ⟨S16x4096x1, .f32⟩
  | 46 => ⟨S16x4096x1, .f32⟩
  | 47 => ⟨S16x4096x1, .f32⟩
  | 48 => ⟨S16x4096x1, .f32⟩
  | 49 => ⟨S16x4096x1, .f32⟩
  | 50 => ⟨S16x4096x1, .f32⟩
  | 51 => ⟨S16x4096x1, .f32⟩
  | 52 => ⟨S16x4096x1, .f32⟩
  | 53 => ⟨S16x4096x3, .f32⟩
  | 54 => ⟨S16x4096x3, .f32⟩
  | 55 => ⟨S_, .f32⟩
  | 56 => ⟨S16x4096, .f32⟩
  | 57 => ⟨S16x4096x1, .f32⟩
  | 58 => ⟨S_, .f32⟩
  | 59 => ⟨S16x4096x1, .f32⟩
  | 60 => ⟨S16x4096x1, .f32⟩
  | 61 => ⟨S16x4096x1, .f32⟩
  | 62 => ⟨S16x4096x3, .f32⟩
  | 63 => ⟨S16x4096x3, .f32⟩
  | 64 => ⟨S16x4096x1, .f32⟩
  | 65 => ⟨S16x4096x1, .f32⟩
  | 66 => ⟨S16x4096x1, .f32⟩
  | 67 => ⟨S16x4096x1, .f32⟩
  | 68 => ⟨S16x4096x1, .f32⟩
  | 69 => ⟨S16x4096x1, .f32⟩
  | 70 => ⟨S16x4096x1, .f32⟩
  | 71 => ⟨S16x4096x1, .f32⟩
  | 72 => ⟨S16x4096x1, .f32⟩
  | 73 => ⟨S16x4096x1, .f32⟩
  | 74 => ⟨S16x4096x1, .f32⟩
  | 75 => ⟨S16x4096x1, .f32⟩
  | 76 => ⟨S16x4096x1, .f32⟩
  | 77 => ⟨S16x4096x1, .f32⟩
  | 78 => ⟨S16x4096x1, .f32⟩
  | 79 => ⟨S16x4096x3, .f32⟩
  | 80 => ⟨S16x4096, .f32⟩
  | 81 => ⟨S16x4096x1, .f32⟩
  | 82 => ⟨S16x4096x1, .f32⟩
  | 83 => ⟨S16x4096x3, .f32⟩
  | 84 => ⟨S16x4096x3, .f32⟩
  | 85 => ⟨S16x4096, .f32⟩
  | 86 => ⟨S16x4096x1, .f32⟩
  | 87 => ⟨S16x4096, .f32⟩
  | 88 => ⟨S16x4096x1, .f32⟩
  | 89 => ⟨S16x4096x1, .f32⟩
  | 90 => ⟨S16x4096x3, .f32⟩
  | 91 => ⟨S16x4096x3, .f32⟩
  | 92 => ⟨S16x4096x3, .f32⟩
  | 93 => ⟨S16x4096, .f32⟩
  | 94 => ⟨S16x4096x1, .f32⟩
  | 95 => ⟨S16x4096, .f32⟩
  | 96 => ⟨S16x4096x1, .f32⟩
  | 97 => ⟨S16x4096x1, .f32⟩
  | 98 => ⟨S16x4096x3, .f32⟩
  | 99 => ⟨S16x4096x3, .f32⟩
  | 100 => ⟨S16x4096x3, .f32⟩
  | 101 => ⟨S16x4096x1, .f32⟩
  | 102 => ⟨S16x4096x3, .f32⟩
  | 103 => ⟨S16x4096x3, .f32⟩
  | 104 => ⟨S16x4096x3, .f32⟩
  | 105 => ⟨S_, .i32⟩
  | 106 => ⟨S1x1x14x1, .i32⟩
  | 107 => ⟨S1x1x14x1, .i1⟩
  | 108 => ⟨S16x4096x1x3, .f32⟩
  | 109 => ⟨S16x4096x14x3, .i1⟩
  | 110 => ⟨S16x4096x14x3, .f32⟩
  | 111 => ⟨S16x4096x14x3, .f32⟩
  | 112 => ⟨S_, .i32⟩
  | 113 => ⟨S16x4096, .i32⟩
  | 114 => ⟨S16x4096, .i1⟩
  | 115 => ⟨S_, .i32⟩
  | 116 => ⟨S16x4096, .i32⟩
  | 117 => ⟨S16x4096, .i32⟩
  | 118 => ⟨S16x4096, .i32⟩
  | 119 => ⟨S16x4096x1, .i32⟩
  | 120 => ⟨S16x4096, .i32⟩
  | 121 => ⟨S16x4096, .f32⟩
  | 122 => ⟨S_, .i32⟩
  | 123 => ⟨S16x4096, .i32⟩
  | 124 => ⟨S16x4096, .i1⟩
  | 125 => ⟨S16x4096, .f32⟩
  | 126 => ⟨S16x4096, .f32⟩
  | 127 => ⟨S14, .i32⟩
  | _ => ⟨S16x4096x14x3, .f32⟩

abbrev hbmTy0_11 (i : Nat) : BufTy := match i % 128 with
  | 0 => ⟨S1x1x14, .i32⟩
  | 1 => ⟨S16x4096x1, .f32⟩
  | 2 => ⟨S1x1x14, .f32⟩
  | 3 => ⟨S16x4096x14, .f32⟩
  | 4 => ⟨S16x4096x14, .f32⟩
  | 5 => ⟨S16x4096x14, .i1⟩
  | 6 => ⟨S16x4096x14, .f32⟩
  | 7 => ⟨S16x4096x14x1, .f32⟩
  | 8 => ⟨S16x4096x14x3, .f32⟩
  | 9 => ⟨S16x4096x14x3, .f32⟩
  | _ => ⟨S16x4096x14x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S16x4096x14x3, .f32⟩

abbrev bufTy : (tb : Table) → Fin (tcTables nBuf tb) → BufTy
  | .hbm, ⟨i, _⟩ => hbmTy i
  | _, _ => ⟨S16x4096x14x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_cst_1 : Ref sig .tc := ⟨.hbm, 6, rfl⟩
abbrev main_cst_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_c_6 : Ref sig .tc := ⟨.hbm, 11, rfl⟩
abbrev main_v0 : Ref sig .tc := ⟨.hbm, 12, rfl⟩
abbrev main_v1 : Ref sig .tc := ⟨.hbm, 13, rfl⟩
abbrev main_c_7 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_call3_c : Ref sig .tc := ⟨.hbm, 56, rfl⟩
abbrev main_call3_v0 : Ref sig .tc := ⟨.hbm, 57, rfl⟩
abbrev main_call3_v1 : Ref sig .tc := ⟨.hbm, 58, rfl⟩
abbrev main_call3_c_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst_8 : Ref sig .tc := ⟨.hbm, 66, rfl⟩
abbrev main_v25 : Ref sig .tc := ⟨.hbm, 67, rfl⟩
abbrev main_v26 : Ref sig .tc := ⟨.hbm, 68, rfl⟩
abbrev main_cst_9 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_10 : Ref sig .tc := ⟨.hbm, 77, rfl⟩
abbrev main_v34 : Ref sig .tc := ⟨.hbm, 78, rfl⟩
abbrev main_v35 : Ref sig .tc := ⟨.hbm, 79, rfl⟩
abbrev main_cst_11 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_12 : Ref sig .tc := ⟨.hbm, 88, rfl⟩
abbrev main_v43 : Ref sig .tc := ⟨.hbm, 89, rfl⟩
abbrev main_v44 : Ref sig .tc := ⟨.hbm, 90, rfl⟩
abbrev main_cst_13 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_14 : Ref sig .tc := ⟨.hbm, 114, rfl⟩
abbrev main_v67 : Ref sig .tc := ⟨.hbm, 115, rfl⟩
abbrev main_v68 : Ref sig .tc := ⟨.hbm, 116, rfl⟩
abbrev main_cst_15 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_16 : Ref sig .tc := ⟨.hbm, 140, rfl⟩
abbrev main_v91 : Ref sig .tc := ⟨.hbm, 141, rfl⟩
abbrev main_v92 : Ref sig .tc := ⟨.hbm, 142, rfl⟩
abbrev main_cst_17 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_18 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_19 : Ref sig .tc := ⟨.hbm, 169, rfl⟩
abbrev main_v117 : Ref sig .tc := ⟨.hbm, 170, rfl⟩
abbrev main_v118 : Ref sig .tc := ⟨.hbm, 171, rfl⟩
abbrev main_c_20 : Ref sig .tc := ⟨.hbm, 172, rfl⟩
abbrev main_v119 : Ref sig .tc := ⟨.hbm, 173, rfl⟩
abbrev main_v120 : Ref sig .tc := ⟨.hbm, 174, rfl⟩
abbrev main_c_21 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_c_22 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_c_23 : Ref sig .tc := ⟨.hbm, 196, rfl⟩
abbrev main_v140 : Ref sig .tc := ⟨.hbm, 197, rfl⟩
abbrev main_v141 : Ref sig .tc := ⟨.hbm, 198, rfl⟩
abbrev main_c_24 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_c_25 : Ref sig .tc := ⟨.hbm, 205, rfl⟩
abbrev main_v147 : Ref sig .tc := ⟨.hbm, 206, rfl⟩
abbrev main_v148 : Ref sig .tc := ⟨.hbm, 207, rfl⟩
abbrev main_c_26 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_c_27 : Ref sig .tc := ⟨.hbm, 214, rfl⟩
abbrev main_v154 : Ref sig .tc := ⟨.hbm, 215, rfl⟩
abbrev main_v155 : Ref sig .tc := ⟨.hbm, 216, rfl⟩
abbrev main_c_28 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_c_29 : Ref sig .tc := ⟨.hbm, 223, rfl⟩
abbrev main_v161 : Ref sig .tc := ⟨.hbm, 224, rfl⟩
abbrev main_v162 : Ref sig .tc := ⟨.hbm, 225, rfl⟩
abbrev main_c_30 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_call4_v0 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_call5_v0 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_call6_v0 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_call7_v0 : Ref sig .tc := ⟨.hbm, 282, rfl⟩
abbrev main_v215 : Ref sig .tc := ⟨.hbm, 283, rfl⟩
abbrev main_c_31 : Ref sig .tc := ⟨.hbm, 284, rfl⟩
abbrev main_v216 : Ref sig .tc := ⟨.hbm, 285, rfl⟩
abbrev main_v217 : Ref sig .tc := ⟨.hbm, 286, rfl⟩
abbrev main_c_32 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_c_33 : Ref sig .tc := ⟨.hbm, 295, rfl⟩
abbrev main_v225 : Ref sig .tc := ⟨.hbm, 296, rfl⟩
abbrev main_v226 : Ref sig .tc := ⟨.hbm, 297, rfl⟩
abbrev main_cst_34 : Ref sig .tc := ⟨.hbm, 298, rfl⟩
abbrev main_call8_v0 : Ref sig .tc := ⟨.hbm, 299, rfl⟩
abbrev main_call8_v1 : Ref sig .tc := ⟨.hbm, 300, rfl⟩
abbrev main_v227 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_call9_c : Ref sig .tc := ⟨.hbm, 305, rfl⟩
abbrev main_call9_v0 : Ref sig .tc := ⟨.hbm, 306, rfl⟩
abbrev main_call9_v1 : Ref sig .tc := ⟨.hbm, 307, rfl⟩
abbrev main_call9_c_0 : Ref sig .tc := ⟨.hbm, 308, rfl⟩
abbrev main_call9_v2 : Ref sig .tc := ⟨.hbm, 309, rfl⟩
abbrev main_call9_v3 : Ref sig .tc := ⟨.hbm, 310, rfl⟩
abbrev main_call9_v4 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_cst_35 : Ref sig .tc := ⟨.hbm, 327, rfl⟩
abbrev main_v246 : Ref sig .tc := ⟨.hbm, 328, rfl⟩
abbrev main_v247 : Ref sig .tc := ⟨.hbm, 329, rfl⟩
abbrev main_cst_36 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩
abbrev main_v257 : Ref sig .tc := ⟨.hbm, 340, rfl⟩
abbrev main_v258 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_v267 : Ref sig .tc := ⟨.hbm, 350, rfl⟩
abbrev main_v268 : Ref sig .tc := ⟨.hbm, 351, rfl⟩
abbrev main_v269 : Ref sig .tc := ⟨.hbm, 352, rfl⟩
abbrev main_v270 : Ref sig .tc := ⟨.hbm, 353, rfl⟩
abbrev main_cst_37 : Ref sig .tc := ⟨.hbm, 354, rfl⟩
abbrev main_v271 : Ref sig .tc := ⟨.hbm, 355, rfl⟩
abbrev main_v272 : Ref sig .tc := ⟨.hbm, 356, rfl⟩
abbrev main_cst_38 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_v284 : Ref sig .tc := ⟨.hbm, 369, rfl⟩
abbrev main_v285 : Ref sig .tc := ⟨.hbm, 370, rfl⟩
abbrev main_v286 : Ref sig .tc := ⟨.hbm, 371, rfl⟩
abbrev main_v287 : Ref sig .tc := ⟨.hbm, 372, rfl⟩
abbrev main_v288 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_v293 : Ref sig .tc := ⟨.hbm, 378, rfl⟩
abbrev main_v294 : Ref sig .tc := ⟨.hbm, 379, rfl⟩
abbrev main_v295 : Ref sig .tc := ⟨.hbm, 380, rfl⟩
abbrev main_v296 : Ref sig .tc := ⟨.hbm, 381, rfl⟩
abbrev main_v297 : Ref sig .tc := ⟨.hbm, 382, rfl⟩
abbrev main_v298 : Ref sig .tc := ⟨.hbm, 383, rfl⟩
abbrev main_v299 : Ref sig .tc := ⟨.hbm, 384, rfl⟩
abbrev main_v300 : Ref sig .tc := ⟨.hbm, 385, rfl⟩
abbrev main_v301 : Ref sig .tc := ⟨.hbm, 386, rfl⟩
abbrev main_v302 : Ref sig .tc := ⟨.hbm, 387, rfl⟩
abbrev main_v303 : Ref sig .tc := ⟨.hbm, 388, rfl⟩
abbrev main_v304 : Ref sig .tc := ⟨.hbm, 389, rfl⟩
abbrev main_v305 : Ref sig .tc := ⟨.hbm, 390, rfl⟩
abbrev main_v306 : Ref sig .tc := ⟨.hbm, 391, rfl⟩
abbrev main_v307 : Ref sig .tc := ⟨.hbm, 392, rfl⟩
abbrev main_v308 : Ref sig .tc := ⟨.hbm, 393, rfl⟩
abbrev main_v309 : Ref sig .tc := ⟨.hbm, 394, rfl⟩
abbrev main_v310 : Ref sig .tc := ⟨.hbm, 395, rfl⟩
abbrev main_v311 : Ref sig .tc := ⟨.hbm, 396, rfl⟩
abbrev main_v312 : Ref sig .tc := ⟨.hbm, 397, rfl⟩
abbrev main_v313 : Ref sig .tc := ⟨.hbm, 398, rfl⟩
abbrev main_v314 : Ref sig .tc := ⟨.hbm, 399, rfl⟩
abbrev main_v315 : Ref sig .tc := ⟨.hbm, 400, rfl⟩
abbrev main_v316 : Ref sig .tc := ⟨.hbm, 401, rfl⟩
abbrev main_v317 : Ref sig .tc := ⟨.hbm, 402, rfl⟩
abbrev main_v318 : Ref sig .tc := ⟨.hbm, 403, rfl⟩
abbrev main_c_39 : Ref sig .tc := ⟨.hbm, 404, rfl⟩
abbrev main_v319 : Ref sig .tc := ⟨.hbm, 405, rfl⟩
abbrev main_v320 : Ref sig .tc := ⟨.hbm, 406, rfl⟩
abbrev main_v321 : Ref sig .tc := ⟨.hbm, 407, rfl⟩
abbrev main_call10_v0 : Ref sig .tc := ⟨.hbm, 408, rfl⟩
abbrev main_call10_v1 : Ref sig .tc := ⟨.hbm, 409, rfl⟩
abbrev main_v322 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_call11_c : Ref sig .tc := ⟨.hbm, 414, rfl⟩
abbrev main_call11_v0 : Ref sig .tc := ⟨.hbm, 415, rfl⟩
abbrev main_call11_v1 : Ref sig .tc := ⟨.hbm, 416, rfl⟩
abbrev main_call11_c_0 : Ref sig .tc := ⟨.hbm, 417, rfl⟩
abbrev main_call11_v2 : Ref sig .tc := ⟨.hbm, 418, rfl⟩
abbrev main_call11_v3 : Ref sig .tc := ⟨.hbm, 419, rfl⟩
abbrev main_call11_v4 : Ref sig .tc := ⟨.hbm, 420, rfl⟩
abbrev main_v326 : Ref sig .tc := ⟨.hbm, 421, rfl⟩
abbrev main_v327 : Ref sig .tc := ⟨.hbm, 422, rfl⟩
abbrev main_v328 : Ref sig .tc := ⟨.hbm, 423, rfl⟩
abbrev main_v329 : Ref sig .tc := ⟨.hbm, 424, rfl⟩
abbrev main_v330 : Ref sig .tc := ⟨.hbm, 425, rfl⟩
abbrev main_v331 : Ref sig .tc := ⟨.hbm, 426, rfl⟩
abbrev main_v332 : Ref sig .tc := ⟨.hbm, 427, rfl⟩
abbrev main_v333 : Ref sig .tc := ⟨.hbm, 428, rfl⟩
abbrev main_v334 : Ref sig .tc := ⟨.hbm, 429, rfl⟩
abbrev main_v335 : Ref sig .tc := ⟨.hbm, 430, rfl⟩
abbrev main_v336 : Ref sig .tc := ⟨.hbm, 431, rfl⟩
abbrev main_v337 : Ref sig .tc := ⟨.hbm, 432, rfl⟩
abbrev main_v338 : Ref sig .tc := ⟨.hbm, 433, rfl⟩
abbrev main_v339 : Ref sig .tc := ⟨.hbm, 434, rfl⟩
abbrev main_v340 : Ref sig .tc := ⟨.hbm, 435, rfl⟩
abbrev main_cst_40 : Ref sig .tc := ⟨.hbm, 436, rfl⟩
abbrev main_v341 : Ref sig .tc := ⟨.hbm, 437, rfl⟩
abbrev main_v342 : Ref sig .tc := ⟨.hbm, 438, rfl⟩
abbrev main_cst_41 : Ref sig .tc := ⟨.hbm, 439, rfl⟩
abbrev main_v343 : Ref sig .tc := ⟨.hbm, 440, rfl⟩
abbrev main_v344 : Ref sig .tc := ⟨.hbm, 441, rfl⟩
abbrev main_v345 : Ref sig .tc := ⟨.hbm, 442, rfl⟩
abbrev main_v346 : Ref sig .tc := ⟨.hbm, 443, rfl⟩
abbrev main_v347 : Ref sig .tc := ⟨.hbm, 444, rfl⟩
abbrev main_v348 : Ref sig .tc := ⟨.hbm, 445, rfl⟩
abbrev main_v349 : Ref sig .tc := ⟨.hbm, 446, rfl⟩
abbrev main_v350 : Ref sig .tc := ⟨.hbm, 447, rfl⟩
abbrev main_v351 : Ref sig .tc := ⟨.hbm, 448, rfl⟩
abbrev main_v352 : Ref sig .tc := ⟨.hbm, 449, rfl⟩
abbrev main_v353 : Ref sig .tc := ⟨.hbm, 450, rfl⟩
abbrev main_v354 : Ref sig .tc := ⟨.hbm, 451, rfl⟩
abbrev main_v355 : Ref sig .tc := ⟨.hbm, 452, rfl⟩
abbrev main_v356 : Ref sig .tc := ⟨.hbm, 453, rfl⟩
abbrev main_v357 : Ref sig .tc := ⟨.hbm, 454, rfl⟩
abbrev main_v358 : Ref sig .tc := ⟨.hbm, 455, rfl⟩
abbrev main_v359 : Ref sig .tc := ⟨.hbm, 456, rfl⟩
abbrev main_v360 : Ref sig .tc := ⟨.hbm, 457, rfl⟩
abbrev main_v361 : Ref sig .tc := ⟨.hbm, 458, rfl⟩
abbrev main_v362 : Ref sig .tc := ⟨.hbm, 459, rfl⟩
abbrev main_v363 : Ref sig .tc := ⟨.hbm, 460, rfl⟩
abbrev main_v364 : Ref sig .tc := ⟨.hbm, 461, rfl⟩
abbrev main_v365 : Ref sig .tc := ⟨.hbm, 462, rfl⟩
abbrev main_cst_42 : Ref sig .tc := ⟨.hbm, 463, rfl⟩
abbrev main_v366 : Ref sig .tc := ⟨.hbm, 464, rfl⟩
abbrev main_v367 : Ref sig .tc := ⟨.hbm, 465, rfl⟩
abbrev main_cst_43 : Ref sig .tc := ⟨.hbm, 466, rfl⟩
abbrev main_v368 : Ref sig .tc := ⟨.hbm, 467, rfl⟩
abbrev main_v369 : Ref sig .tc := ⟨.hbm, 468, rfl⟩
abbrev main_v370 : Ref sig .tc := ⟨.hbm, 469, rfl⟩
abbrev main_v371 : Ref sig .tc := ⟨.hbm, 470, rfl⟩
abbrev main_v372 : Ref sig .tc := ⟨.hbm, 471, rfl⟩
abbrev main_v373 : Ref sig .tc := ⟨.hbm, 472, rfl⟩
abbrev main_v374 : Ref sig .tc := ⟨.hbm, 473, rfl⟩
abbrev main_v375 : Ref sig .tc := ⟨.hbm, 474, rfl⟩
abbrev main_v376 : Ref sig .tc := ⟨.hbm, 475, rfl⟩
abbrev main_v377 : Ref sig .tc := ⟨.hbm, 476, rfl⟩
abbrev main_v378 : Ref sig .tc := ⟨.hbm, 477, rfl⟩
abbrev main_v379 : Ref sig .tc := ⟨.hbm, 478, rfl⟩
abbrev main_v380 : Ref sig .tc := ⟨.hbm, 479, rfl⟩
abbrev main_v381 : Ref sig .tc := ⟨.hbm, 480, rfl⟩
abbrev main_v382 : Ref sig .tc := ⟨.hbm, 481, rfl⟩
abbrev main_v383 : Ref sig .tc := ⟨.hbm, 482, rfl⟩
abbrev main_v384 : Ref sig .tc := ⟨.hbm, 483, rfl⟩
abbrev main_v385 : Ref sig .tc := ⟨.hbm, 484, rfl⟩
abbrev main_v386 : Ref sig .tc := ⟨.hbm, 485, rfl⟩
abbrev main_v387 : Ref sig .tc := ⟨.hbm, 486, rfl⟩
abbrev main_v388 : Ref sig .tc := ⟨.hbm, 487, rfl⟩
abbrev main_v389 : Ref sig .tc := ⟨.hbm, 488, rfl⟩
abbrev main_v390 : Ref sig .tc := ⟨.hbm, 489, rfl⟩
abbrev main_v391 : Ref sig .tc := ⟨.hbm, 490, rfl⟩
abbrev main_v392 : Ref sig .tc := ⟨.hbm, 491, rfl⟩
abbrev main_v393 : Ref sig .tc := ⟨.hbm, 492, rfl⟩
abbrev main_v394 : Ref sig .tc := ⟨.hbm, 493, rfl⟩
abbrev main_v395 : Ref sig .tc := ⟨.hbm, 494, rfl⟩
abbrev main_v396 : Ref sig .tc := ⟨.hbm, 495, rfl⟩
abbrev main_v397 : Ref sig .tc := ⟨.hbm, 496, rfl⟩
abbrev main_v398 : Ref sig .tc := ⟨.hbm, 497, rfl⟩
abbrev main_v399 : Ref sig .tc := ⟨.hbm, 498, rfl⟩
abbrev main_v400 : Ref sig .tc := ⟨.hbm, 499, rfl⟩
abbrev main_v401 : Ref sig .tc := ⟨.hbm, 500, rfl⟩
abbrev main_v402 : Ref sig .tc := ⟨.hbm, 501, rfl⟩
abbrev main_v403 : Ref sig .tc := ⟨.hbm, 502, rfl⟩
abbrev main_v404 : Ref sig .tc := ⟨.hbm, 503, rfl⟩
abbrev main_v405 : Ref sig .tc := ⟨.hbm, 504, rfl⟩
abbrev main_v406 : Ref sig .tc := ⟨.hbm, 505, rfl⟩
abbrev main_v407 : Ref sig .tc := ⟨.hbm, 506, rfl⟩
abbrev main_v408 : Ref sig .tc := ⟨.hbm, 507, rfl⟩
abbrev main_v409 : Ref sig .tc := ⟨.hbm, 508, rfl⟩
abbrev main_v410 : Ref sig .tc := ⟨.hbm, 509, rfl⟩
abbrev main_v411 : Ref sig .tc := ⟨.hbm, 510, rfl⟩
abbrev main_v412 : Ref sig .tc := ⟨.hbm, 511, rfl⟩
abbrev main_v413 : Ref sig .tc := ⟨.hbm, 512, rfl⟩
abbrev main_c_44 : Ref sig .tc := ⟨.hbm, 513, rfl⟩
abbrev main_v414 : Ref sig .tc := ⟨.hbm, 514, rfl⟩
abbrev main_v415 : Ref sig .tc := ⟨.hbm, 515, rfl⟩
abbrev main_v416 : Ref sig .tc := ⟨.hbm, 516, rfl⟩
abbrev main_call12_v0 : Ref sig .tc := ⟨.hbm, 517, rfl⟩
abbrev main_call12_v1 : Ref sig .tc := ⟨.hbm, 518, rfl⟩
abbrev main_v417 : Ref sig .tc := ⟨.hbm, 519, rfl⟩
abbrev main_v418 : Ref sig .tc := ⟨.hbm, 520, rfl⟩
abbrev main_v419 : Ref sig .tc := ⟨.hbm, 521, rfl⟩
abbrev main_v420 : Ref sig .tc := ⟨.hbm, 522, rfl⟩
abbrev main_call13_c : Ref sig .tc := ⟨.hbm, 523, rfl⟩
abbrev main_call13_v0 : Ref sig .tc := ⟨.hbm, 524, rfl⟩
abbrev main_call13_v1 : Ref sig .tc := ⟨.hbm, 525, rfl⟩
abbrev main_call13_c_0 : Ref sig .tc := ⟨.hbm, 526, rfl⟩
abbrev main_call13_v2 : Ref sig .tc := ⟨.hbm, 527, rfl⟩
abbrev main_call13_v3 : Ref sig .tc := ⟨.hbm, 528, rfl⟩
abbrev main_call13_v4 : Ref sig .tc := ⟨.hbm, 529, rfl⟩
abbrev main_v421 : Ref sig .tc := ⟨.hbm, 530, rfl⟩
abbrev main_v422 : Ref sig .tc := ⟨.hbm, 531, rfl⟩
abbrev main_v423 : Ref sig .tc := ⟨.hbm, 532, rfl⟩
abbrev main_v424 : Ref sig .tc := ⟨.hbm, 533, rfl⟩
abbrev main_v425 : Ref sig .tc := ⟨.hbm, 534, rfl⟩
abbrev main_v426 : Ref sig .tc := ⟨.hbm, 535, rfl⟩
abbrev main_v427 : Ref sig .tc := ⟨.hbm, 536, rfl⟩
abbrev main_v428 : Ref sig .tc := ⟨.hbm, 537, rfl⟩
abbrev main_v429 : Ref sig .tc := ⟨.hbm, 538, rfl⟩
abbrev main_v430 : Ref sig .tc := ⟨.hbm, 539, rfl⟩
abbrev main_v431 : Ref sig .tc := ⟨.hbm, 540, rfl⟩
abbrev main_v432 : Ref sig .tc := ⟨.hbm, 541, rfl⟩
abbrev main_v433 : Ref sig .tc := ⟨.hbm, 542, rfl⟩
abbrev main_v434 : Ref sig .tc := ⟨.hbm, 543, rfl⟩
abbrev main_v435 : Ref sig .tc := ⟨.hbm, 544, rfl⟩
abbrev main_cst_45 : Ref sig .tc := ⟨.hbm, 545, rfl⟩
abbrev main_v436 : Ref sig .tc := ⟨.hbm, 546, rfl⟩
abbrev main_v437 : Ref sig .tc := ⟨.hbm, 547, rfl⟩
abbrev main_cst_46 : Ref sig .tc := ⟨.hbm, 548, rfl⟩
abbrev main_v438 : Ref sig .tc := ⟨.hbm, 549, rfl⟩
abbrev main_v439 : Ref sig .tc := ⟨.hbm, 550, rfl⟩
abbrev main_v440 : Ref sig .tc := ⟨.hbm, 551, rfl⟩
abbrev main_v441 : Ref sig .tc := ⟨.hbm, 552, rfl⟩
abbrev main_v442 : Ref sig .tc := ⟨.hbm, 553, rfl⟩
abbrev main_v443 : Ref sig .tc := ⟨.hbm, 554, rfl⟩
abbrev main_v444 : Ref sig .tc := ⟨.hbm, 555, rfl⟩
abbrev main_v445 : Ref sig .tc := ⟨.hbm, 556, rfl⟩
abbrev main_v446 : Ref sig .tc := ⟨.hbm, 557, rfl⟩
abbrev main_v447 : Ref sig .tc := ⟨.hbm, 558, rfl⟩
abbrev main_v448 : Ref sig .tc := ⟨.hbm, 559, rfl⟩
abbrev main_v449 : Ref sig .tc := ⟨.hbm, 560, rfl⟩
abbrev main_v450 : Ref sig .tc := ⟨.hbm, 561, rfl⟩
abbrev main_v451 : Ref sig .tc := ⟨.hbm, 562, rfl⟩
abbrev main_v452 : Ref sig .tc := ⟨.hbm, 563, rfl⟩
abbrev main_v453 : Ref sig .tc := ⟨.hbm, 564, rfl⟩
abbrev main_v454 : Ref sig .tc := ⟨.hbm, 565, rfl⟩
abbrev main_v455 : Ref sig .tc := ⟨.hbm, 566, rfl⟩
abbrev main_v456 : Ref sig .tc := ⟨.hbm, 567, rfl⟩
abbrev main_v457 : Ref sig .tc := ⟨.hbm, 568, rfl⟩
abbrev main_v458 : Ref sig .tc := ⟨.hbm, 569, rfl⟩
abbrev main_v459 : Ref sig .tc := ⟨.hbm, 570, rfl⟩
abbrev main_v460 : Ref sig .tc := ⟨.hbm, 571, rfl⟩
abbrev main_cst_47 : Ref sig .tc := ⟨.hbm, 572, rfl⟩
abbrev main_v461 : Ref sig .tc := ⟨.hbm, 573, rfl⟩
abbrev main_v462 : Ref sig .tc := ⟨.hbm, 574, rfl⟩
abbrev main_cst_48 : Ref sig .tc := ⟨.hbm, 575, rfl⟩
abbrev main_v463 : Ref sig .tc := ⟨.hbm, 576, rfl⟩
abbrev main_v464 : Ref sig .tc := ⟨.hbm, 577, rfl⟩
abbrev main_v465 : Ref sig .tc := ⟨.hbm, 578, rfl⟩
abbrev main_v466 : Ref sig .tc := ⟨.hbm, 579, rfl⟩
abbrev main_v467 : Ref sig .tc := ⟨.hbm, 580, rfl⟩
abbrev main_v468 : Ref sig .tc := ⟨.hbm, 581, rfl⟩
abbrev main_v469 : Ref sig .tc := ⟨.hbm, 582, rfl⟩
abbrev main_v470 : Ref sig .tc := ⟨.hbm, 583, rfl⟩
abbrev main_v471 : Ref sig .tc := ⟨.hbm, 584, rfl⟩
abbrev main_v472 : Ref sig .tc := ⟨.hbm, 585, rfl⟩
abbrev main_v473 : Ref sig .tc := ⟨.hbm, 586, rfl⟩
abbrev main_v474 : Ref sig .tc := ⟨.hbm, 587, rfl⟩
abbrev main_v475 : Ref sig .tc := ⟨.hbm, 588, rfl⟩
abbrev main_v476 : Ref sig .tc := ⟨.hbm, 589, rfl⟩
abbrev main_v477 : Ref sig .tc := ⟨.hbm, 590, rfl⟩
abbrev main_v478 : Ref sig .tc := ⟨.hbm, 591, rfl⟩
abbrev main_v479 : Ref sig .tc := ⟨.hbm, 592, rfl⟩
abbrev main_v480 : Ref sig .tc := ⟨.hbm, 593, rfl⟩
abbrev main_v481 : Ref sig .tc := ⟨.hbm, 594, rfl⟩
abbrev main_v482 : Ref sig .tc := ⟨.hbm, 595, rfl⟩
abbrev main_v483 : Ref sig .tc := ⟨.hbm, 596, rfl⟩
abbrev main_v484 : Ref sig .tc := ⟨.hbm, 597, rfl⟩
abbrev main_v485 : Ref sig .tc := ⟨.hbm, 598, rfl⟩
abbrev main_v486 : Ref sig .tc := ⟨.hbm, 599, rfl⟩
abbrev main_v487 : Ref sig .tc := ⟨.hbm, 600, rfl⟩
abbrev main_v488 : Ref sig .tc := ⟨.hbm, 601, rfl⟩
abbrev main_v489 : Ref sig .tc := ⟨.hbm, 602, rfl⟩
abbrev main_v490 : Ref sig .tc := ⟨.hbm, 603, rfl⟩
abbrev main_v491 : Ref sig .tc := ⟨.hbm, 604, rfl⟩
abbrev main_v492 : Ref sig .tc := ⟨.hbm, 605, rfl⟩
abbrev main_v493 : Ref sig .tc := ⟨.hbm, 606, rfl⟩
abbrev main_v494 : Ref sig .tc := ⟨.hbm, 607, rfl⟩
abbrev main_v495 : Ref sig .tc := ⟨.hbm, 608, rfl⟩
abbrev main_v496 : Ref sig .tc := ⟨.hbm, 609, rfl⟩
abbrev main_v497 : Ref sig .tc := ⟨.hbm, 610, rfl⟩
abbrev main_v498 : Ref sig .tc := ⟨.hbm, 611, rfl⟩
abbrev main_v499 : Ref sig .tc := ⟨.hbm, 612, rfl⟩
abbrev main_v500 : Ref sig .tc := ⟨.hbm, 613, rfl⟩
abbrev main_v501 : Ref sig .tc := ⟨.hbm, 614, rfl⟩
abbrev main_v502 : Ref sig .tc := ⟨.hbm, 615, rfl⟩
abbrev main_v503 : Ref sig .tc := ⟨.hbm, 616, rfl⟩
abbrev main_v504 : Ref sig .tc := ⟨.hbm, 617, rfl⟩
abbrev main_v505 : Ref sig .tc := ⟨.hbm, 618, rfl⟩
abbrev main_v506 : Ref sig .tc := ⟨.hbm, 619, rfl⟩
abbrev main_v507 : Ref sig .tc := ⟨.hbm, 620, rfl⟩
abbrev main_v508 : Ref sig .tc := ⟨.hbm, 621, rfl⟩
abbrev main_c_49 : Ref sig .tc := ⟨.hbm, 622, rfl⟩
abbrev main_v509 : Ref sig .tc := ⟨.hbm, 623, rfl⟩
abbrev main_v510 : Ref sig .tc := ⟨.hbm, 624, rfl⟩
abbrev main_v511 : Ref sig .tc := ⟨.hbm, 625, rfl⟩
abbrev main_call14_v0 : Ref sig .tc := ⟨.hbm, 626, rfl⟩
abbrev main_call14_v1 : Ref sig .tc := ⟨.hbm, 627, rfl⟩
abbrev main_v512 : Ref sig .tc := ⟨.hbm, 628, rfl⟩
abbrev main_v513 : Ref sig .tc := ⟨.hbm, 629, rfl⟩
abbrev main_v514 : Ref sig .tc := ⟨.hbm, 630, rfl⟩
abbrev main_v515 : Ref sig .tc := ⟨.hbm, 631, rfl⟩
abbrev main_call15_c : Ref sig .tc := ⟨.hbm, 632, rfl⟩
abbrev main_call15_v0 : Ref sig .tc := ⟨.hbm, 633, rfl⟩
abbrev main_call15_v1 : Ref sig .tc := ⟨.hbm, 634, rfl⟩
abbrev main_call15_c_0 : Ref sig .tc := ⟨.hbm, 635, rfl⟩
abbrev main_call15_v2 : Ref sig .tc := ⟨.hbm, 636, rfl⟩
abbrev main_call15_v3 : Ref sig .tc := ⟨.hbm, 637, rfl⟩
abbrev main_call15_v4 : Ref sig .tc := ⟨.hbm, 638, rfl⟩
abbrev main_v516 : Ref sig .tc := ⟨.hbm, 639, rfl⟩
abbrev main_v517 : Ref sig .tc := ⟨.hbm, 640, rfl⟩
abbrev main_v518 : Ref sig .tc := ⟨.hbm, 641, rfl⟩
abbrev main_v519 : Ref sig .tc := ⟨.hbm, 642, rfl⟩
abbrev main_v520 : Ref sig .tc := ⟨.hbm, 643, rfl⟩
abbrev main_v521 : Ref sig .tc := ⟨.hbm, 644, rfl⟩
abbrev main_v522 : Ref sig .tc := ⟨.hbm, 645, rfl⟩
abbrev main_v523 : Ref sig .tc := ⟨.hbm, 646, rfl⟩
abbrev main_v524 : Ref sig .tc := ⟨.hbm, 647, rfl⟩
abbrev main_v525 : Ref sig .tc := ⟨.hbm, 648, rfl⟩
abbrev main_v526 : Ref sig .tc := ⟨.hbm, 649, rfl⟩
abbrev main_v527 : Ref sig .tc := ⟨.hbm, 650, rfl⟩
abbrev main_v528 : Ref sig .tc := ⟨.hbm, 651, rfl⟩
abbrev main_v529 : Ref sig .tc := ⟨.hbm, 652, rfl⟩
abbrev main_v530 : Ref sig .tc := ⟨.hbm, 653, rfl⟩
abbrev main_cst_50 : Ref sig .tc := ⟨.hbm, 654, rfl⟩
abbrev main_v531 : Ref sig .tc := ⟨.hbm, 655, rfl⟩
abbrev main_v532 : Ref sig .tc := ⟨.hbm, 656, rfl⟩
abbrev main_cst_51 : Ref sig .tc := ⟨.hbm, 657, rfl⟩
abbrev main_v533 : Ref sig .tc := ⟨.hbm, 658, rfl⟩
abbrev main_v534 : Ref sig .tc := ⟨.hbm, 659, rfl⟩
abbrev main_v535 : Ref sig .tc := ⟨.hbm, 660, rfl⟩
abbrev main_v536 : Ref sig .tc := ⟨.hbm, 661, rfl⟩
abbrev main_v537 : Ref sig .tc := ⟨.hbm, 662, rfl⟩
abbrev main_v538 : Ref sig .tc := ⟨.hbm, 663, rfl⟩
abbrev main_v539 : Ref sig .tc := ⟨.hbm, 664, rfl⟩
abbrev main_v540 : Ref sig .tc := ⟨.hbm, 665, rfl⟩
abbrev main_v541 : Ref sig .tc := ⟨.hbm, 666, rfl⟩
abbrev main_v542 : Ref sig .tc := ⟨.hbm, 667, rfl⟩
abbrev main_v543 : Ref sig .tc := ⟨.hbm, 668, rfl⟩
abbrev main_v544 : Ref sig .tc := ⟨.hbm, 669, rfl⟩
abbrev main_v545 : Ref sig .tc := ⟨.hbm, 670, rfl⟩
abbrev main_v546 : Ref sig .tc := ⟨.hbm, 671, rfl⟩
abbrev main_v547 : Ref sig .tc := ⟨.hbm, 672, rfl⟩
abbrev main_v548 : Ref sig .tc := ⟨.hbm, 673, rfl⟩
abbrev main_v549 : Ref sig .tc := ⟨.hbm, 674, rfl⟩
abbrev main_v550 : Ref sig .tc := ⟨.hbm, 675, rfl⟩
abbrev main_v551 : Ref sig .tc := ⟨.hbm, 676, rfl⟩
abbrev main_v552 : Ref sig .tc := ⟨.hbm, 677, rfl⟩
abbrev main_v553 : Ref sig .tc := ⟨.hbm, 678, rfl⟩
abbrev main_v554 : Ref sig .tc := ⟨.hbm, 679, rfl⟩
abbrev main_v555 : Ref sig .tc := ⟨.hbm, 680, rfl⟩
abbrev main_cst_52 : Ref sig .tc := ⟨.hbm, 681, rfl⟩
abbrev main_v556 : Ref sig .tc := ⟨.hbm, 682, rfl⟩
abbrev main_v557 : Ref sig .tc := ⟨.hbm, 683, rfl⟩
abbrev main_cst_53 : Ref sig .tc := ⟨.hbm, 684, rfl⟩
abbrev main_v558 : Ref sig .tc := ⟨.hbm, 685, rfl⟩
abbrev main_v559 : Ref sig .tc := ⟨.hbm, 686, rfl⟩
abbrev main_v560 : Ref sig .tc := ⟨.hbm, 687, rfl⟩
abbrev main_v561 : Ref sig .tc := ⟨.hbm, 688, rfl⟩
abbrev main_v562 : Ref sig .tc := ⟨.hbm, 689, rfl⟩
abbrev main_v563 : Ref sig .tc := ⟨.hbm, 690, rfl⟩
abbrev main_v564 : Ref sig .tc := ⟨.hbm, 691, rfl⟩
abbrev main_v565 : Ref sig .tc := ⟨.hbm, 692, rfl⟩
abbrev main_v566 : Ref sig .tc := ⟨.hbm, 693, rfl⟩
abbrev main_v567 : Ref sig .tc := ⟨.hbm, 694, rfl⟩
abbrev main_v568 : Ref sig .tc := ⟨.hbm, 695, rfl⟩
abbrev main_v569 : Ref sig .tc := ⟨.hbm, 696, rfl⟩
abbrev main_v570 : Ref sig .tc := ⟨.hbm, 697, rfl⟩
abbrev main_v571 : Ref sig .tc := ⟨.hbm, 698, rfl⟩
abbrev main_v572 : Ref sig .tc := ⟨.hbm, 699, rfl⟩
abbrev main_v573 : Ref sig .tc := ⟨.hbm, 700, rfl⟩
abbrev main_v574 : Ref sig .tc := ⟨.hbm, 701, rfl⟩
abbrev main_v575 : Ref sig .tc := ⟨.hbm, 702, rfl⟩
abbrev main_v576 : Ref sig .tc := ⟨.hbm, 703, rfl⟩
abbrev main_v577 : Ref sig .tc := ⟨.hbm, 704, rfl⟩
abbrev main_v578 : Ref sig .tc := ⟨.hbm, 705, rfl⟩
abbrev main_v579 : Ref sig .tc := ⟨.hbm, 706, rfl⟩
abbrev main_v580 : Ref sig .tc := ⟨.hbm, 707, rfl⟩
abbrev main_v581 : Ref sig .tc := ⟨.hbm, 708, rfl⟩
abbrev main_v582 : Ref sig .tc := ⟨.hbm, 709, rfl⟩
abbrev main_v583 : Ref sig .tc := ⟨.hbm, 710, rfl⟩
abbrev main_v584 : Ref sig .tc := ⟨.hbm, 711, rfl⟩
abbrev main_v585 : Ref sig .tc := ⟨.hbm, 712, rfl⟩
abbrev main_v586 : Ref sig .tc := ⟨.hbm, 713, rfl⟩
abbrev main_v587 : Ref sig .tc := ⟨.hbm, 714, rfl⟩
abbrev main_v588 : Ref sig .tc := ⟨.hbm, 715, rfl⟩
abbrev main_v589 : Ref sig .tc := ⟨.hbm, 716, rfl⟩
abbrev main_v590 : Ref sig .tc := ⟨.hbm, 717, rfl⟩
abbrev main_v591 : Ref sig .tc := ⟨.hbm, 718, rfl⟩
abbrev main_v592 : Ref sig .tc := ⟨.hbm, 719, rfl⟩
abbrev main_v593 : Ref sig .tc := ⟨.hbm, 720, rfl⟩
abbrev main_v594 : Ref sig .tc := ⟨.hbm, 721, rfl⟩
abbrev main_v595 : Ref sig .tc := ⟨.hbm, 722, rfl⟩
abbrev main_v596 : Ref sig .tc := ⟨.hbm, 723, rfl⟩
abbrev main_v597 : Ref sig .tc := ⟨.hbm, 724, rfl⟩
abbrev main_v598 : Ref sig .tc := ⟨.hbm, 725, rfl⟩
abbrev main_v599 : Ref sig .tc := ⟨.hbm, 726, rfl⟩
abbrev main_v600 : Ref sig .tc := ⟨.hbm, 727, rfl⟩
abbrev main_v601 : Ref sig .tc := ⟨.hbm, 728, rfl⟩
abbrev main_v602 : Ref sig .tc := ⟨.hbm, 729, rfl⟩
abbrev main_v603 : Ref sig .tc := ⟨.hbm, 730, rfl⟩
abbrev main_c_54 : Ref sig .tc := ⟨.hbm, 731, rfl⟩
abbrev main_v604 : Ref sig .tc := ⟨.hbm, 732, rfl⟩
abbrev main_v605 : Ref sig .tc := ⟨.hbm, 733, rfl⟩
abbrev main_v606 : Ref sig .tc := ⟨.hbm, 734, rfl⟩
abbrev main_call16_v0 : Ref sig .tc := ⟨.hbm, 735, rfl⟩
abbrev main_call16_v1 : Ref sig .tc := ⟨.hbm, 736, rfl⟩
abbrev main_v607 : Ref sig .tc := ⟨.hbm, 737, rfl⟩
abbrev main_v608 : Ref sig .tc := ⟨.hbm, 738, rfl⟩
abbrev main_v609 : Ref sig .tc := ⟨.hbm, 739, rfl⟩
abbrev main_v610 : Ref sig .tc := ⟨.hbm, 740, rfl⟩
abbrev main_call17_c : Ref sig .tc := ⟨.hbm, 741, rfl⟩
abbrev main_call17_v0 : Ref sig .tc := ⟨.hbm, 742, rfl⟩
abbrev main_call17_v1 : Ref sig .tc := ⟨.hbm, 743, rfl⟩
abbrev main_call17_c_0 : Ref sig .tc := ⟨.hbm, 744, rfl⟩
abbrev main_call17_v2 : Ref sig .tc := ⟨.hbm, 745, rfl⟩
abbrev main_call17_v3 : Ref sig .tc := ⟨.hbm, 746, rfl⟩
abbrev main_call17_v4 : Ref sig .tc := ⟨.hbm, 747, rfl⟩
abbrev main_v611 : Ref sig .tc := ⟨.hbm, 748, rfl⟩
abbrev main_v612 : Ref sig .tc := ⟨.hbm, 749, rfl⟩
abbrev main_v613 : Ref sig .tc := ⟨.hbm, 750, rfl⟩
abbrev main_v614 : Ref sig .tc := ⟨.hbm, 751, rfl⟩
abbrev main_v615 : Ref sig .tc := ⟨.hbm, 752, rfl⟩
abbrev main_v616 : Ref sig .tc := ⟨.hbm, 753, rfl⟩
abbrev main_v617 : Ref sig .tc := ⟨.hbm, 754, rfl⟩
abbrev main_v618 : Ref sig .tc := ⟨.hbm, 755, rfl⟩
abbrev main_v619 : Ref sig .tc := ⟨.hbm, 756, rfl⟩
abbrev main_v620 : Ref sig .tc := ⟨.hbm, 757, rfl⟩
abbrev main_v621 : Ref sig .tc := ⟨.hbm, 758, rfl⟩
abbrev main_v622 : Ref sig .tc := ⟨.hbm, 759, rfl⟩
abbrev main_v623 : Ref sig .tc := ⟨.hbm, 760, rfl⟩
abbrev main_v624 : Ref sig .tc := ⟨.hbm, 761, rfl⟩
abbrev main_v625 : Ref sig .tc := ⟨.hbm, 762, rfl⟩
abbrev main_cst_55 : Ref sig .tc := ⟨.hbm, 763, rfl⟩
abbrev main_v626 : Ref sig .tc := ⟨.hbm, 764, rfl⟩
abbrev main_v627 : Ref sig .tc := ⟨.hbm, 765, rfl⟩
abbrev main_cst_56 : Ref sig .tc := ⟨.hbm, 766, rfl⟩
abbrev main_v628 : Ref sig .tc := ⟨.hbm, 767, rfl⟩
abbrev main_v629 : Ref sig .tc := ⟨.hbm, 768, rfl⟩
abbrev main_v630 : Ref sig .tc := ⟨.hbm, 769, rfl⟩
abbrev main_v631 : Ref sig .tc := ⟨.hbm, 770, rfl⟩
abbrev main_v632 : Ref sig .tc := ⟨.hbm, 771, rfl⟩
abbrev main_v633 : Ref sig .tc := ⟨.hbm, 772, rfl⟩
abbrev main_v634 : Ref sig .tc := ⟨.hbm, 773, rfl⟩
abbrev main_v635 : Ref sig .tc := ⟨.hbm, 774, rfl⟩
abbrev main_v636 : Ref sig .tc := ⟨.hbm, 775, rfl⟩
abbrev main_v637 : Ref sig .tc := ⟨.hbm, 776, rfl⟩
abbrev main_v638 : Ref sig .tc := ⟨.hbm, 777, rfl⟩
abbrev main_v639 : Ref sig .tc := ⟨.hbm, 778, rfl⟩
abbrev main_v640 : Ref sig .tc := ⟨.hbm, 779, rfl⟩
abbrev main_v641 : Ref sig .tc := ⟨.hbm, 780, rfl⟩
abbrev main_v642 : Ref sig .tc := ⟨.hbm, 781, rfl⟩
abbrev main_v643 : Ref sig .tc := ⟨.hbm, 782, rfl⟩
abbrev main_v644 : Ref sig .tc := ⟨.hbm, 783, rfl⟩
abbrev main_v645 : Ref sig .tc := ⟨.hbm, 784, rfl⟩
abbrev main_v646 : Ref sig .tc := ⟨.hbm, 785, rfl⟩
abbrev main_v647 : Ref sig .tc := ⟨.hbm, 786, rfl⟩
abbrev main_v648 : Ref sig .tc := ⟨.hbm, 787, rfl⟩
abbrev main_v649 : Ref sig .tc := ⟨.hbm, 788, rfl⟩
abbrev main_v650 : Ref sig .tc := ⟨.hbm, 789, rfl⟩
abbrev main_cst_57 : Ref sig .tc := ⟨.hbm, 790, rfl⟩
abbrev main_v651 : Ref sig .tc := ⟨.hbm, 791, rfl⟩
abbrev main_v652 : Ref sig .tc := ⟨.hbm, 792, rfl⟩
abbrev main_cst_58 : Ref sig .tc := ⟨.hbm, 793, rfl⟩
abbrev main_v653 : Ref sig .tc := ⟨.hbm, 794, rfl⟩
abbrev main_v654 : Ref sig .tc := ⟨.hbm, 795, rfl⟩
abbrev main_v655 : Ref sig .tc := ⟨.hbm, 796, rfl⟩
abbrev main_v656 : Ref sig .tc := ⟨.hbm, 797, rfl⟩
abbrev main_v657 : Ref sig .tc := ⟨.hbm, 798, rfl⟩
abbrev main_v658 : Ref sig .tc := ⟨.hbm, 799, rfl⟩
abbrev main_v659 : Ref sig .tc := ⟨.hbm, 800, rfl⟩
abbrev main_v660 : Ref sig .tc := ⟨.hbm, 801, rfl⟩
abbrev main_v661 : Ref sig .tc := ⟨.hbm, 802, rfl⟩
abbrev main_v662 : Ref sig .tc := ⟨.hbm, 803, rfl⟩
abbrev main_v663 : Ref sig .tc := ⟨.hbm, 804, rfl⟩
abbrev main_v664 : Ref sig .tc := ⟨.hbm, 805, rfl⟩
abbrev main_v665 : Ref sig .tc := ⟨.hbm, 806, rfl⟩
abbrev main_v666 : Ref sig .tc := ⟨.hbm, 807, rfl⟩
abbrev main_v667 : Ref sig .tc := ⟨.hbm, 808, rfl⟩
abbrev main_v668 : Ref sig .tc := ⟨.hbm, 809, rfl⟩
abbrev main_v669 : Ref sig .tc := ⟨.hbm, 810, rfl⟩
abbrev main_v670 : Ref sig .tc := ⟨.hbm, 811, rfl⟩
abbrev main_v671 : Ref sig .tc := ⟨.hbm, 812, rfl⟩
abbrev main_v672 : Ref sig .tc := ⟨.hbm, 813, rfl⟩
abbrev main_v673 : Ref sig .tc := ⟨.hbm, 814, rfl⟩
abbrev main_v674 : Ref sig .tc := ⟨.hbm, 815, rfl⟩
abbrev main_v675 : Ref sig .tc := ⟨.hbm, 816, rfl⟩
abbrev main_v676 : Ref sig .tc := ⟨.hbm, 817, rfl⟩
abbrev main_v677 : Ref sig .tc := ⟨.hbm, 818, rfl⟩
abbrev main_v678 : Ref sig .tc := ⟨.hbm, 819, rfl⟩
abbrev main_v679 : Ref sig .tc := ⟨.hbm, 820, rfl⟩
abbrev main_v680 : Ref sig .tc := ⟨.hbm, 821, rfl⟩
abbrev main_v681 : Ref sig .tc := ⟨.hbm, 822, rfl⟩
abbrev main_v682 : Ref sig .tc := ⟨.hbm, 823, rfl⟩
abbrev main_v683 : Ref sig .tc := ⟨.hbm, 824, rfl⟩
abbrev main_v684 : Ref sig .tc := ⟨.hbm, 825, rfl⟩
abbrev main_v685 : Ref sig .tc := ⟨.hbm, 826, rfl⟩
abbrev main_v686 : Ref sig .tc := ⟨.hbm, 827, rfl⟩
abbrev main_v687 : Ref sig .tc := ⟨.hbm, 828, rfl⟩
abbrev main_v688 : Ref sig .tc := ⟨.hbm, 829, rfl⟩
abbrev main_v689 : Ref sig .tc := ⟨.hbm, 830, rfl⟩
abbrev main_v690 : Ref sig .tc := ⟨.hbm, 831, rfl⟩
abbrev main_v691 : Ref sig .tc := ⟨.hbm, 832, rfl⟩
abbrev main_v692 : Ref sig .tc := ⟨.hbm, 833, rfl⟩
abbrev main_v693 : Ref sig .tc := ⟨.hbm, 834, rfl⟩
abbrev main_v694 : Ref sig .tc := ⟨.hbm, 835, rfl⟩
abbrev main_v695 : Ref sig .tc := ⟨.hbm, 836, rfl⟩
abbrev main_v696 : Ref sig .tc := ⟨.hbm, 837, rfl⟩
abbrev main_v697 : Ref sig .tc := ⟨.hbm, 838, rfl⟩
abbrev main_v698 : Ref sig .tc := ⟨.hbm, 839, rfl⟩
abbrev main_c_59 : Ref sig .tc := ⟨.hbm, 840, rfl⟩
abbrev main_v699 : Ref sig .tc := ⟨.hbm, 841, rfl⟩
abbrev main_v700 : Ref sig .tc := ⟨.hbm, 842, rfl⟩
abbrev main_v701 : Ref sig .tc := ⟨.hbm, 843, rfl⟩
abbrev main_call18_v0 : Ref sig .tc := ⟨.hbm, 844, rfl⟩
abbrev main_call18_v1 : Ref sig .tc := ⟨.hbm, 845, rfl⟩
abbrev main_v702 : Ref sig .tc := ⟨.hbm, 846, rfl⟩
abbrev main_v703 : Ref sig .tc := ⟨.hbm, 847, rfl⟩
abbrev main_v704 : Ref sig .tc := ⟨.hbm, 848, rfl⟩
abbrev main_v705 : Ref sig .tc := ⟨.hbm, 849, rfl⟩
abbrev main_call19_c : Ref sig .tc := ⟨.hbm, 850, rfl⟩
abbrev main_call19_v0 : Ref sig .tc := ⟨.hbm, 851, rfl⟩
abbrev main_call19_v1 : Ref sig .tc := ⟨.hbm, 852, rfl⟩
abbrev main_call19_c_0 : Ref sig .tc := ⟨.hbm, 853, rfl⟩
abbrev main_call19_v2 : Ref sig .tc := ⟨.hbm, 854, rfl⟩
abbrev main_call19_v3 : Ref sig .tc := ⟨.hbm, 855, rfl⟩
abbrev main_call19_v4 : Ref sig .tc := ⟨.hbm, 856, rfl⟩
abbrev main_v706 : Ref sig .tc := ⟨.hbm, 857, rfl⟩
abbrev main_v707 : Ref sig .tc := ⟨.hbm, 858, rfl⟩
abbrev main_v708 : Ref sig .tc := ⟨.hbm, 859, rfl⟩
abbrev main_v709 : Ref sig .tc := ⟨.hbm, 860, rfl⟩
abbrev main_v710 : Ref sig .tc := ⟨.hbm, 861, rfl⟩
abbrev main_v711 : Ref sig .tc := ⟨.hbm, 862, rfl⟩
abbrev main_v712 : Ref sig .tc := ⟨.hbm, 863, rfl⟩
abbrev main_v713 : Ref sig .tc := ⟨.hbm, 864, rfl⟩
abbrev main_v714 : Ref sig .tc := ⟨.hbm, 865, rfl⟩
abbrev main_v715 : Ref sig .tc := ⟨.hbm, 866, rfl⟩
abbrev main_v716 : Ref sig .tc := ⟨.hbm, 867, rfl⟩
abbrev main_v717 : Ref sig .tc := ⟨.hbm, 868, rfl⟩
abbrev main_v718 : Ref sig .tc := ⟨.hbm, 869, rfl⟩
abbrev main_v719 : Ref sig .tc := ⟨.hbm, 870, rfl⟩
abbrev main_v720 : Ref sig .tc := ⟨.hbm, 871, rfl⟩
abbrev main_cst_60 : Ref sig .tc := ⟨.hbm, 872, rfl⟩
abbrev main_v721 : Ref sig .tc := ⟨.hbm, 873, rfl⟩
abbrev main_v722 : Ref sig .tc := ⟨.hbm, 874, rfl⟩
abbrev main_cst_61 : Ref sig .tc := ⟨.hbm, 875, rfl⟩
abbrev main_v723 : Ref sig .tc := ⟨.hbm, 876, rfl⟩
abbrev main_v724 : Ref sig .tc := ⟨.hbm, 877, rfl⟩
abbrev main_v725 : Ref sig .tc := ⟨.hbm, 878, rfl⟩
abbrev main_v726 : Ref sig .tc := ⟨.hbm, 879, rfl⟩
abbrev main_v727 : Ref sig .tc := ⟨.hbm, 880, rfl⟩
abbrev main_v728 : Ref sig .tc := ⟨.hbm, 881, rfl⟩
abbrev main_v729 : Ref sig .tc := ⟨.hbm, 882, rfl⟩
abbrev main_v730 : Ref sig .tc := ⟨.hbm, 883, rfl⟩
abbrev main_v731 : Ref sig .tc := ⟨.hbm, 884, rfl⟩
abbrev main_v732 : Ref sig .tc := ⟨.hbm, 885, rfl⟩
abbrev main_v733 : Ref sig .tc := ⟨.hbm, 886, rfl⟩
abbrev main_v734 : Ref sig .tc := ⟨.hbm, 887, rfl⟩
abbrev main_v735 : Ref sig .tc := ⟨.hbm, 888, rfl⟩
abbrev main_v736 : Ref sig .tc := ⟨.hbm, 889, rfl⟩
abbrev main_v737 : Ref sig .tc := ⟨.hbm, 890, rfl⟩
abbrev main_v738 : Ref sig .tc := ⟨.hbm, 891, rfl⟩
abbrev main_v739 : Ref sig .tc := ⟨.hbm, 892, rfl⟩
abbrev main_v740 : Ref sig .tc := ⟨.hbm, 893, rfl⟩
abbrev main_v741 : Ref sig .tc := ⟨.hbm, 894, rfl⟩
abbrev main_v742 : Ref sig .tc := ⟨.hbm, 895, rfl⟩
abbrev main_v743 : Ref sig .tc := ⟨.hbm, 896, rfl⟩
abbrev main_v744 : Ref sig .tc := ⟨.hbm, 897, rfl⟩
abbrev main_v745 : Ref sig .tc := ⟨.hbm, 898, rfl⟩
abbrev main_cst_62 : Ref sig .tc := ⟨.hbm, 899, rfl⟩
abbrev main_v746 : Ref sig .tc := ⟨.hbm, 900, rfl⟩
abbrev main_v747 : Ref sig .tc := ⟨.hbm, 901, rfl⟩
abbrev main_cst_63 : Ref sig .tc := ⟨.hbm, 902, rfl⟩
abbrev main_v748 : Ref sig .tc := ⟨.hbm, 903, rfl⟩
abbrev main_v749 : Ref sig .tc := ⟨.hbm, 904, rfl⟩
abbrev main_v750 : Ref sig .tc := ⟨.hbm, 905, rfl⟩
abbrev main_v751 : Ref sig .tc := ⟨.hbm, 906, rfl⟩
abbrev main_v752 : Ref sig .tc := ⟨.hbm, 907, rfl⟩
abbrev main_v753 : Ref sig .tc := ⟨.hbm, 908, rfl⟩
abbrev main_v754 : Ref sig .tc := ⟨.hbm, 909, rfl⟩
abbrev main_v755 : Ref sig .tc := ⟨.hbm, 910, rfl⟩
abbrev main_v756 : Ref sig .tc := ⟨.hbm, 911, rfl⟩
abbrev main_v757 : Ref sig .tc := ⟨.hbm, 912, rfl⟩
abbrev main_v758 : Ref sig .tc := ⟨.hbm, 913, rfl⟩
abbrev main_v759 : Ref sig .tc := ⟨.hbm, 914, rfl⟩
abbrev main_v760 : Ref sig .tc := ⟨.hbm, 915, rfl⟩
abbrev main_v761 : Ref sig .tc := ⟨.hbm, 916, rfl⟩
abbrev main_v762 : Ref sig .tc := ⟨.hbm, 917, rfl⟩
abbrev main_v763 : Ref sig .tc := ⟨.hbm, 918, rfl⟩
abbrev main_v764 : Ref sig .tc := ⟨.hbm, 919, rfl⟩
abbrev main_v765 : Ref sig .tc := ⟨.hbm, 920, rfl⟩
abbrev main_v766 : Ref sig .tc := ⟨.hbm, 921, rfl⟩
abbrev main_v767 : Ref sig .tc := ⟨.hbm, 922, rfl⟩
abbrev main_v768 : Ref sig .tc := ⟨.hbm, 923, rfl⟩
abbrev main_v769 : Ref sig .tc := ⟨.hbm, 924, rfl⟩
abbrev main_v770 : Ref sig .tc := ⟨.hbm, 925, rfl⟩
abbrev main_v771 : Ref sig .tc := ⟨.hbm, 926, rfl⟩
abbrev main_v772 : Ref sig .tc := ⟨.hbm, 927, rfl⟩
abbrev main_v773 : Ref sig .tc := ⟨.hbm, 928, rfl⟩
abbrev main_v774 : Ref sig .tc := ⟨.hbm, 929, rfl⟩
abbrev main_v775 : Ref sig .tc := ⟨.hbm, 930, rfl⟩
abbrev main_v776 : Ref sig .tc := ⟨.hbm, 931, rfl⟩
abbrev main_v777 : Ref sig .tc := ⟨.hbm, 932, rfl⟩
abbrev main_v778 : Ref sig .tc := ⟨.hbm, 933, rfl⟩
abbrev main_v779 : Ref sig .tc := ⟨.hbm, 934, rfl⟩
abbrev main_v780 : Ref sig .tc := ⟨.hbm, 935, rfl⟩
abbrev main_v781 : Ref sig .tc := ⟨.hbm, 936, rfl⟩
abbrev main_v782 : Ref sig .tc := ⟨.hbm, 937, rfl⟩
abbrev main_v783 : Ref sig .tc := ⟨.hbm, 938, rfl⟩
abbrev main_v784 : Ref sig .tc := ⟨.hbm, 939, rfl⟩
abbrev main_v785 : Ref sig .tc := ⟨.hbm, 940, rfl⟩
abbrev main_v786 : Ref sig .tc := ⟨.hbm, 941, rfl⟩
abbrev main_v787 : Ref sig .tc := ⟨.hbm, 942, rfl⟩
abbrev main_v788 : Ref sig .tc := ⟨.hbm, 943, rfl⟩
abbrev main_v789 : Ref sig .tc := ⟨.hbm, 944, rfl⟩
abbrev main_v790 : Ref sig .tc := ⟨.hbm, 945, rfl⟩
abbrev main_v791 : Ref sig .tc := ⟨.hbm, 946, rfl⟩
abbrev main_v792 : Ref sig .tc := ⟨.hbm, 947, rfl⟩
abbrev main_v793 : Ref sig .tc := ⟨.hbm, 948, rfl⟩
abbrev main_c_64 : Ref sig .tc := ⟨.hbm, 949, rfl⟩
abbrev main_v794 : Ref sig .tc := ⟨.hbm, 950, rfl⟩
abbrev main_v795 : Ref sig .tc := ⟨.hbm, 951, rfl⟩
abbrev main_v796 : Ref sig .tc := ⟨.hbm, 952, rfl⟩
abbrev main_call20_v0 : Ref sig .tc := ⟨.hbm, 953, rfl⟩
abbrev main_call20_v1 : Ref sig .tc := ⟨.hbm, 954, rfl⟩
abbrev main_v797 : Ref sig .tc := ⟨.hbm, 955, rfl⟩
abbrev main_v798 : Ref sig .tc := ⟨.hbm, 956, rfl⟩
abbrev main_v799 : Ref sig .tc := ⟨.hbm, 957, rfl⟩
abbrev main_v800 : Ref sig .tc := ⟨.hbm, 958, rfl⟩
abbrev main_call21_c : Ref sig .tc := ⟨.hbm, 959, rfl⟩
abbrev main_call21_v0 : Ref sig .tc := ⟨.hbm, 960, rfl⟩
abbrev main_call21_v1 : Ref sig .tc := ⟨.hbm, 961, rfl⟩
abbrev main_call21_c_0 : Ref sig .tc := ⟨.hbm, 962, rfl⟩
abbrev main_call21_v2 : Ref sig .tc := ⟨.hbm, 963, rfl⟩
abbrev main_call21_v3 : Ref sig .tc := ⟨.hbm, 964, rfl⟩
abbrev main_call21_v4 : Ref sig .tc := ⟨.hbm, 965, rfl⟩
abbrev main_v801 : Ref sig .tc := ⟨.hbm, 966, rfl⟩
abbrev main_v802 : Ref sig .tc := ⟨.hbm, 967, rfl⟩
abbrev main_v803 : Ref sig .tc := ⟨.hbm, 968, rfl⟩
abbrev main_v804 : Ref sig .tc := ⟨.hbm, 969, rfl⟩
abbrev main_v805 : Ref sig .tc := ⟨.hbm, 970, rfl⟩
abbrev main_v806 : Ref sig .tc := ⟨.hbm, 971, rfl⟩
abbrev main_v807 : Ref sig .tc := ⟨.hbm, 972, rfl⟩
abbrev main_v808 : Ref sig .tc := ⟨.hbm, 973, rfl⟩
abbrev main_v809 : Ref sig .tc := ⟨.hbm, 974, rfl⟩
abbrev main_v810 : Ref sig .tc := ⟨.hbm, 975, rfl⟩
abbrev main_v811 : Ref sig .tc := ⟨.hbm, 976, rfl⟩
abbrev main_v812 : Ref sig .tc := ⟨.hbm, 977, rfl⟩
abbrev main_v813 : Ref sig .tc := ⟨.hbm, 978, rfl⟩
abbrev main_v814 : Ref sig .tc := ⟨.hbm, 979, rfl⟩
abbrev main_v815 : Ref sig .tc := ⟨.hbm, 980, rfl⟩
abbrev main_cst_65 : Ref sig .tc := ⟨.hbm, 981, rfl⟩
abbrev main_v816 : Ref sig .tc := ⟨.hbm, 982, rfl⟩
abbrev main_v817 : Ref sig .tc := ⟨.hbm, 983, rfl⟩
abbrev main_cst_66 : Ref sig .tc := ⟨.hbm, 984, rfl⟩
abbrev main_v818 : Ref sig .tc := ⟨.hbm, 985, rfl⟩
abbrev main_v819 : Ref sig .tc := ⟨.hbm, 986, rfl⟩
abbrev main_v820 : Ref sig .tc := ⟨.hbm, 987, rfl⟩
abbrev main_v821 : Ref sig .tc := ⟨.hbm, 988, rfl⟩
abbrev main_v822 : Ref sig .tc := ⟨.hbm, 989, rfl⟩
abbrev main_v823 : Ref sig .tc := ⟨.hbm, 990, rfl⟩
abbrev main_v824 : Ref sig .tc := ⟨.hbm, 991, rfl⟩
abbrev main_v825 : Ref sig .tc := ⟨.hbm, 992, rfl⟩
abbrev main_v826 : Ref sig .tc := ⟨.hbm, 993, rfl⟩
abbrev main_v827 : Ref sig .tc := ⟨.hbm, 994, rfl⟩
abbrev main_v828 : Ref sig .tc := ⟨.hbm, 995, rfl⟩
abbrev main_v829 : Ref sig .tc := ⟨.hbm, 996, rfl⟩
abbrev main_v830 : Ref sig .tc := ⟨.hbm, 997, rfl⟩
abbrev main_v831 : Ref sig .tc := ⟨.hbm, 998, rfl⟩
abbrev main_v832 : Ref sig .tc := ⟨.hbm, 999, rfl⟩
abbrev main_v833 : Ref sig .tc := ⟨.hbm, 1000, rfl⟩
abbrev main_v834 : Ref sig .tc := ⟨.hbm, 1001, rfl⟩
abbrev main_v835 : Ref sig .tc := ⟨.hbm, 1002, rfl⟩
abbrev main_v836 : Ref sig .tc := ⟨.hbm, 1003, rfl⟩
abbrev main_v837 : Ref sig .tc := ⟨.hbm, 1004, rfl⟩
abbrev main_v838 : Ref sig .tc := ⟨.hbm, 1005, rfl⟩
abbrev main_v839 : Ref sig .tc := ⟨.hbm, 1006, rfl⟩
abbrev main_v840 : Ref sig .tc := ⟨.hbm, 1007, rfl⟩
abbrev main_cst_67 : Ref sig .tc := ⟨.hbm, 1008, rfl⟩
abbrev main_v841 : Ref sig .tc := ⟨.hbm, 1009, rfl⟩
abbrev main_v842 : Ref sig .tc := ⟨.hbm, 1010, rfl⟩
abbrev main_cst_68 : Ref sig .tc := ⟨.hbm, 1011, rfl⟩
abbrev main_v843 : Ref sig .tc := ⟨.hbm, 1012, rfl⟩
abbrev main_v844 : Ref sig .tc := ⟨.hbm, 1013, rfl⟩
abbrev main_v845 : Ref sig .tc := ⟨.hbm, 1014, rfl⟩
abbrev main_v846 : Ref sig .tc := ⟨.hbm, 1015, rfl⟩
abbrev main_v847 : Ref sig .tc := ⟨.hbm, 1016, rfl⟩
abbrev main_v848 : Ref sig .tc := ⟨.hbm, 1017, rfl⟩
abbrev main_v849 : Ref sig .tc := ⟨.hbm, 1018, rfl⟩
abbrev main_v850 : Ref sig .tc := ⟨.hbm, 1019, rfl⟩
abbrev main_v851 : Ref sig .tc := ⟨.hbm, 1020, rfl⟩
abbrev main_v852 : Ref sig .tc := ⟨.hbm, 1021, rfl⟩
abbrev main_v853 : Ref sig .tc := ⟨.hbm, 1022, rfl⟩
abbrev main_v854 : Ref sig .tc := ⟨.hbm, 1023, rfl⟩
abbrev main_v855 : Ref sig .tc := ⟨.hbm, 1024, rfl⟩
abbrev main_v856 : Ref sig .tc := ⟨.hbm, 1025, rfl⟩
abbrev main_v857 : Ref sig .tc := ⟨.hbm, 1026, rfl⟩
abbrev main_v858 : Ref sig .tc := ⟨.hbm, 1027, rfl⟩
abbrev main_v859 : Ref sig .tc := ⟨.hbm, 1028, rfl⟩
abbrev main_v860 : Ref sig .tc := ⟨.hbm, 1029, rfl⟩
abbrev main_v861 : Ref sig .tc := ⟨.hbm, 1030, rfl⟩
abbrev main_v862 : Ref sig .tc := ⟨.hbm, 1031, rfl⟩
abbrev main_v863 : Ref sig .tc := ⟨.hbm, 1032, rfl⟩
abbrev main_v864 : Ref sig .tc := ⟨.hbm, 1033, rfl⟩
abbrev main_v865 : Ref sig .tc := ⟨.hbm, 1034, rfl⟩
abbrev main_v866 : Ref sig .tc := ⟨.hbm, 1035, rfl⟩
abbrev main_v867 : Ref sig .tc := ⟨.hbm, 1036, rfl⟩
abbrev main_v868 : Ref sig .tc := ⟨.hbm, 1037, rfl⟩
abbrev main_v869 : Ref sig .tc := ⟨.hbm, 1038, rfl⟩
abbrev main_v870 : Ref sig .tc := ⟨.hbm, 1039, rfl⟩
abbrev main_v871 : Ref sig .tc := ⟨.hbm, 1040, rfl⟩
abbrev main_v872 : Ref sig .tc := ⟨.hbm, 1041, rfl⟩
abbrev main_v873 : Ref sig .tc := ⟨.hbm, 1042, rfl⟩
abbrev main_v874 : Ref sig .tc := ⟨.hbm, 1043, rfl⟩
abbrev main_v875 : Ref sig .tc := ⟨.hbm, 1044, rfl⟩
abbrev main_v876 : Ref sig .tc := ⟨.hbm, 1045, rfl⟩
abbrev main_v877 : Ref sig .tc := ⟨.hbm, 1046, rfl⟩
abbrev main_v878 : Ref sig .tc := ⟨.hbm, 1047, rfl⟩
abbrev main_v879 : Ref sig .tc := ⟨.hbm, 1048, rfl⟩
abbrev main_v880 : Ref sig .tc := ⟨.hbm, 1049, rfl⟩
abbrev main_v881 : Ref sig .tc := ⟨.hbm, 1050, rfl⟩
abbrev main_v882 : Ref sig .tc := ⟨.hbm, 1051, rfl⟩
abbrev main_v883 : Ref sig .tc := ⟨.hbm, 1052, rfl⟩
abbrev main_v884 : Ref sig .tc := ⟨.hbm, 1053, rfl⟩
abbrev main_v885 : Ref sig .tc := ⟨.hbm, 1054, rfl⟩
abbrev main_v886 : Ref sig .tc := ⟨.hbm, 1055, rfl⟩
abbrev main_v887 : Ref sig .tc := ⟨.hbm, 1056, rfl⟩
abbrev main_v888 : Ref sig .tc := ⟨.hbm, 1057, rfl⟩
abbrev main_c_69 : Ref sig .tc := ⟨.hbm, 1058, rfl⟩
abbrev main_v889 : Ref sig .tc := ⟨.hbm, 1059, rfl⟩
abbrev main_v890 : Ref sig .tc := ⟨.hbm, 1060, rfl⟩
abbrev main_v891 : Ref sig .tc := ⟨.hbm, 1061, rfl⟩
abbrev main_call22_v0 : Ref sig .tc := ⟨.hbm, 1062, rfl⟩
abbrev main_call22_v1 : Ref sig .tc := ⟨.hbm, 1063, rfl⟩
abbrev main_v892 : Ref sig .tc := ⟨.hbm, 1064, rfl⟩
abbrev main_v893 : Ref sig .tc := ⟨.hbm, 1065, rfl⟩
abbrev main_v894 : Ref sig .tc := ⟨.hbm, 1066, rfl⟩
abbrev main_v895 : Ref sig .tc := ⟨.hbm, 1067, rfl⟩
abbrev main_call23_c : Ref sig .tc := ⟨.hbm, 1068, rfl⟩
abbrev main_call23_v0 : Ref sig .tc := ⟨.hbm, 1069, rfl⟩
abbrev main_call23_v1 : Ref sig .tc := ⟨.hbm, 1070, rfl⟩
abbrev main_call23_c_0 : Ref sig .tc := ⟨.hbm, 1071, rfl⟩
abbrev main_call23_v2 : Ref sig .tc := ⟨.hbm, 1072, rfl⟩
abbrev main_call23_v3 : Ref sig .tc := ⟨.hbm, 1073, rfl⟩
abbrev main_call23_v4 : Ref sig .tc := ⟨.hbm, 1074, rfl⟩
abbrev main_v896 : Ref sig .tc := ⟨.hbm, 1075, rfl⟩
abbrev main_v897 : Ref sig .tc := ⟨.hbm, 1076, rfl⟩
abbrev main_v898 : Ref sig .tc := ⟨.hbm, 1077, rfl⟩
abbrev main_v899 : Ref sig .tc := ⟨.hbm, 1078, rfl⟩
abbrev main_v900 : Ref sig .tc := ⟨.hbm, 1079, rfl⟩
abbrev main_v901 : Ref sig .tc := ⟨.hbm, 1080, rfl⟩
abbrev main_v902 : Ref sig .tc := ⟨.hbm, 1081, rfl⟩
abbrev main_v903 : Ref sig .tc := ⟨.hbm, 1082, rfl⟩
abbrev main_v904 : Ref sig .tc := ⟨.hbm, 1083, rfl⟩
abbrev main_v905 : Ref sig .tc := ⟨.hbm, 1084, rfl⟩
abbrev main_v906 : Ref sig .tc := ⟨.hbm, 1085, rfl⟩
abbrev main_v907 : Ref sig .tc := ⟨.hbm, 1086, rfl⟩
abbrev main_v908 : Ref sig .tc := ⟨.hbm, 1087, rfl⟩
abbrev main_v909 : Ref sig .tc := ⟨.hbm, 1088, rfl⟩
abbrev main_v910 : Ref sig .tc := ⟨.hbm, 1089, rfl⟩
abbrev main_cst_70 : Ref sig .tc := ⟨.hbm, 1090, rfl⟩
abbrev main_v911 : Ref sig .tc := ⟨.hbm, 1091, rfl⟩
abbrev main_v912 : Ref sig .tc := ⟨.hbm, 1092, rfl⟩
abbrev main_cst_71 : Ref sig .tc := ⟨.hbm, 1093, rfl⟩
abbrev main_v913 : Ref sig .tc := ⟨.hbm, 1094, rfl⟩
abbrev main_v914 : Ref sig .tc := ⟨.hbm, 1095, rfl⟩
abbrev main_v915 : Ref sig .tc := ⟨.hbm, 1096, rfl⟩
abbrev main_v916 : Ref sig .tc := ⟨.hbm, 1097, rfl⟩
abbrev main_v917 : Ref sig .tc := ⟨.hbm, 1098, rfl⟩
abbrev main_v918 : Ref sig .tc := ⟨.hbm, 1099, rfl⟩
abbrev main_v919 : Ref sig .tc := ⟨.hbm, 1100, rfl⟩
abbrev main_v920 : Ref sig .tc := ⟨.hbm, 1101, rfl⟩
abbrev main_v921 : Ref sig .tc := ⟨.hbm, 1102, rfl⟩
abbrev main_v922 : Ref sig .tc := ⟨.hbm, 1103, rfl⟩
abbrev main_v923 : Ref sig .tc := ⟨.hbm, 1104, rfl⟩
abbrev main_v924 : Ref sig .tc := ⟨.hbm, 1105, rfl⟩
abbrev main_v925 : Ref sig .tc := ⟨.hbm, 1106, rfl⟩
abbrev main_v926 : Ref sig .tc := ⟨.hbm, 1107, rfl⟩
abbrev main_v927 : Ref sig .tc := ⟨.hbm, 1108, rfl⟩
abbrev main_v928 : Ref sig .tc := ⟨.hbm, 1109, rfl⟩
abbrev main_v929 : Ref sig .tc := ⟨.hbm, 1110, rfl⟩
abbrev main_v930 : Ref sig .tc := ⟨.hbm, 1111, rfl⟩
abbrev main_v931 : Ref sig .tc := ⟨.hbm, 1112, rfl⟩
abbrev main_v932 : Ref sig .tc := ⟨.hbm, 1113, rfl⟩
abbrev main_v933 : Ref sig .tc := ⟨.hbm, 1114, rfl⟩
abbrev main_v934 : Ref sig .tc := ⟨.hbm, 1115, rfl⟩
abbrev main_v935 : Ref sig .tc := ⟨.hbm, 1116, rfl⟩
abbrev main_cst_72 : Ref sig .tc := ⟨.hbm, 1117, rfl⟩
abbrev main_v936 : Ref sig .tc := ⟨.hbm, 1118, rfl⟩
abbrev main_v937 : Ref sig .tc := ⟨.hbm, 1119, rfl⟩
abbrev main_cst_73 : Ref sig .tc := ⟨.hbm, 1120, rfl⟩
abbrev main_v938 : Ref sig .tc := ⟨.hbm, 1121, rfl⟩
abbrev main_v939 : Ref sig .tc := ⟨.hbm, 1122, rfl⟩
abbrev main_v940 : Ref sig .tc := ⟨.hbm, 1123, rfl⟩
abbrev main_v941 : Ref sig .tc := ⟨.hbm, 1124, rfl⟩
abbrev main_v942 : Ref sig .tc := ⟨.hbm, 1125, rfl⟩
abbrev main_v943 : Ref sig .tc := ⟨.hbm, 1126, rfl⟩
abbrev main_v944 : Ref sig .tc := ⟨.hbm, 1127, rfl⟩
abbrev main_v945 : Ref sig .tc := ⟨.hbm, 1128, rfl⟩
abbrev main_v946 : Ref sig .tc := ⟨.hbm, 1129, rfl⟩
abbrev main_v947 : Ref sig .tc := ⟨.hbm, 1130, rfl⟩
abbrev main_v948 : Ref sig .tc := ⟨.hbm, 1131, rfl⟩
abbrev main_v949 : Ref sig .tc := ⟨.hbm, 1132, rfl⟩
abbrev main_v950 : Ref sig .tc := ⟨.hbm, 1133, rfl⟩
abbrev main_v951 : Ref sig .tc := ⟨.hbm, 1134, rfl⟩
abbrev main_v952 : Ref sig .tc := ⟨.hbm, 1135, rfl⟩
abbrev main_v953 : Ref sig .tc := ⟨.hbm, 1136, rfl⟩
abbrev main_v954 : Ref sig .tc := ⟨.hbm, 1137, rfl⟩
abbrev main_v955 : Ref sig .tc := ⟨.hbm, 1138, rfl⟩
abbrev main_v956 : Ref sig .tc := ⟨.hbm, 1139, rfl⟩
abbrev main_v957 : Ref sig .tc := ⟨.hbm, 1140, rfl⟩
abbrev main_v958 : Ref sig .tc := ⟨.hbm, 1141, rfl⟩
abbrev main_v959 : Ref sig .tc := ⟨.hbm, 1142, rfl⟩
abbrev main_v960 : Ref sig .tc := ⟨.hbm, 1143, rfl⟩
abbrev main_v961 : Ref sig .tc := ⟨.hbm, 1144, rfl⟩
abbrev main_v962 : Ref sig .tc := ⟨.hbm, 1145, rfl⟩
abbrev main_v963 : Ref sig .tc := ⟨.hbm, 1146, rfl⟩
abbrev main_v964 : Ref sig .tc := ⟨.hbm, 1147, rfl⟩
abbrev main_v965 : Ref sig .tc := ⟨.hbm, 1148, rfl⟩
abbrev main_v966 : Ref sig .tc := ⟨.hbm, 1149, rfl⟩
abbrev main_v967 : Ref sig .tc := ⟨.hbm, 1150, rfl⟩
abbrev main_v968 : Ref sig .tc := ⟨.hbm, 1151, rfl⟩
abbrev main_v969 : Ref sig .tc := ⟨.hbm, 1152, rfl⟩
abbrev main_v970 : Ref sig .tc := ⟨.hbm, 1153, rfl⟩
abbrev main_v971 : Ref sig .tc := ⟨.hbm, 1154, rfl⟩
abbrev main_v972 : Ref sig .tc := ⟨.hbm, 1155, rfl⟩
abbrev main_v973 : Ref sig .tc := ⟨.hbm, 1156, rfl⟩
abbrev main_v974 : Ref sig .tc := ⟨.hbm, 1157, rfl⟩
abbrev main_v975 : Ref sig .tc := ⟨.hbm, 1158, rfl⟩
abbrev main_v976 : Ref sig .tc := ⟨.hbm, 1159, rfl⟩
abbrev main_v977 : Ref sig .tc := ⟨.hbm, 1160, rfl⟩
abbrev main_v978 : Ref sig .tc := ⟨.hbm, 1161, rfl⟩
abbrev main_v979 : Ref sig .tc := ⟨.hbm, 1162, rfl⟩
abbrev main_v980 : Ref sig .tc := ⟨.hbm, 1163, rfl⟩
abbrev main_v981 : Ref sig .tc := ⟨.hbm, 1164, rfl⟩
abbrev main_v982 : Ref sig .tc := ⟨.hbm, 1165, rfl⟩
abbrev main_v983 : Ref sig .tc := ⟨.hbm, 1166, rfl⟩
abbrev main_c_74 : Ref sig .tc := ⟨.hbm, 1167, rfl⟩
abbrev main_v984 : Ref sig .tc := ⟨.hbm, 1168, rfl⟩
abbrev main_v985 : Ref sig .tc := ⟨.hbm, 1169, rfl⟩
abbrev main_v986 : Ref sig .tc := ⟨.hbm, 1170, rfl⟩
abbrev main_call24_v0 : Ref sig .tc := ⟨.hbm, 1171, rfl⟩
abbrev main_call24_v1 : Ref sig .tc := ⟨.hbm, 1172, rfl⟩
abbrev main_v987 : Ref sig .tc := ⟨.hbm, 1173, rfl⟩
abbrev main_v988 : Ref sig .tc := ⟨.hbm, 1174, rfl⟩
abbrev main_v989 : Ref sig .tc := ⟨.hbm, 1175, rfl⟩
abbrev main_v990 : Ref sig .tc := ⟨.hbm, 1176, rfl⟩
abbrev main_call25_c : Ref sig .tc := ⟨.hbm, 1177, rfl⟩
abbrev main_call25_v0 : Ref sig .tc := ⟨.hbm, 1178, rfl⟩
abbrev main_call25_v1 : Ref sig .tc := ⟨.hbm, 1179, rfl⟩
abbrev main_call25_c_0 : Ref sig .tc := ⟨.hbm, 1180, rfl⟩
abbrev main_call25_v2 : Ref sig .tc := ⟨.hbm, 1181, rfl⟩
abbrev main_call25_v3 : Ref sig .tc := ⟨.hbm, 1182, rfl⟩
abbrev main_call25_v4 : Ref sig .tc := ⟨.hbm, 1183, rfl⟩
abbrev main_v991 : Ref sig .tc := ⟨.hbm, 1184, rfl⟩
abbrev main_v992 : Ref sig .tc := ⟨.hbm, 1185, rfl⟩
abbrev main_v993 : Ref sig .tc := ⟨.hbm, 1186, rfl⟩
abbrev main_v994 : Ref sig .tc := ⟨.hbm, 1187, rfl⟩
abbrev main_v995 : Ref sig .tc := ⟨.hbm, 1188, rfl⟩
abbrev main_v996 : Ref sig .tc := ⟨.hbm, 1189, rfl⟩
abbrev main_v997 : Ref sig .tc := ⟨.hbm, 1190, rfl⟩
abbrev main_v998 : Ref sig .tc := ⟨.hbm, 1191, rfl⟩
abbrev main_v999 : Ref sig .tc := ⟨.hbm, 1192, rfl⟩
abbrev main_v1000 : Ref sig .tc := ⟨.hbm, 1193, rfl⟩
abbrev main_v1001 : Ref sig .tc := ⟨.hbm, 1194, rfl⟩
abbrev main_v1002 : Ref sig .tc := ⟨.hbm, 1195, rfl⟩
abbrev main_v1003 : Ref sig .tc := ⟨.hbm, 1196, rfl⟩
abbrev main_v1004 : Ref sig .tc := ⟨.hbm, 1197, rfl⟩
abbrev main_v1005 : Ref sig .tc := ⟨.hbm, 1198, rfl⟩
abbrev main_cst_75 : Ref sig .tc := ⟨.hbm, 1199, rfl⟩
abbrev main_v1006 : Ref sig .tc := ⟨.hbm, 1200, rfl⟩
abbrev main_v1007 : Ref sig .tc := ⟨.hbm, 1201, rfl⟩
abbrev main_cst_76 : Ref sig .tc := ⟨.hbm, 1202, rfl⟩
abbrev main_v1008 : Ref sig .tc := ⟨.hbm, 1203, rfl⟩
abbrev main_v1009 : Ref sig .tc := ⟨.hbm, 1204, rfl⟩
abbrev main_v1010 : Ref sig .tc := ⟨.hbm, 1205, rfl⟩
abbrev main_v1011 : Ref sig .tc := ⟨.hbm, 1206, rfl⟩
abbrev main_v1012 : Ref sig .tc := ⟨.hbm, 1207, rfl⟩
abbrev main_v1013 : Ref sig .tc := ⟨.hbm, 1208, rfl⟩
abbrev main_v1014 : Ref sig .tc := ⟨.hbm, 1209, rfl⟩
abbrev main_v1015 : Ref sig .tc := ⟨.hbm, 1210, rfl⟩
abbrev main_v1016 : Ref sig .tc := ⟨.hbm, 1211, rfl⟩
abbrev main_v1017 : Ref sig .tc := ⟨.hbm, 1212, rfl⟩
abbrev main_v1018 : Ref sig .tc := ⟨.hbm, 1213, rfl⟩
abbrev main_v1019 : Ref sig .tc := ⟨.hbm, 1214, rfl⟩
abbrev main_v1020 : Ref sig .tc := ⟨.hbm, 1215, rfl⟩
abbrev main_v1021 : Ref sig .tc := ⟨.hbm, 1216, rfl⟩
abbrev main_v1022 : Ref sig .tc := ⟨.hbm, 1217, rfl⟩
abbrev main_v1023 : Ref sig .tc := ⟨.hbm, 1218, rfl⟩
abbrev main_v1024 : Ref sig .tc := ⟨.hbm, 1219, rfl⟩
abbrev main_v1025 : Ref sig .tc := ⟨.hbm, 1220, rfl⟩
abbrev main_v1026 : Ref sig .tc := ⟨.hbm, 1221, rfl⟩
abbrev main_v1027 : Ref sig .tc := ⟨.hbm, 1222, rfl⟩
abbrev main_v1028 : Ref sig .tc := ⟨.hbm, 1223, rfl⟩
abbrev main_v1029 : Ref sig .tc := ⟨.hbm, 1224, rfl⟩
abbrev main_v1030 : Ref sig .tc := ⟨.hbm, 1225, rfl⟩
abbrev main_cst_77 : Ref sig .tc := ⟨.hbm, 1226, rfl⟩
abbrev main_v1031 : Ref sig .tc := ⟨.hbm, 1227, rfl⟩
abbrev main_v1032 : Ref sig .tc := ⟨.hbm, 1228, rfl⟩
abbrev main_cst_78 : Ref sig .tc := ⟨.hbm, 1229, rfl⟩
abbrev main_v1033 : Ref sig .tc := ⟨.hbm, 1230, rfl⟩
abbrev main_v1034 : Ref sig .tc := ⟨.hbm, 1231, rfl⟩
abbrev main_v1035 : Ref sig .tc := ⟨.hbm, 1232, rfl⟩
abbrev main_v1036 : Ref sig .tc := ⟨.hbm, 1233, rfl⟩
abbrev main_v1037 : Ref sig .tc := ⟨.hbm, 1234, rfl⟩
abbrev main_v1038 : Ref sig .tc := ⟨.hbm, 1235, rfl⟩
abbrev main_v1039 : Ref sig .tc := ⟨.hbm, 1236, rfl⟩
abbrev main_v1040 : Ref sig .tc := ⟨.hbm, 1237, rfl⟩
abbrev main_v1041 : Ref sig .tc := ⟨.hbm, 1238, rfl⟩
abbrev main_v1042 : Ref sig .tc := ⟨.hbm, 1239, rfl⟩
abbrev main_v1043 : Ref sig .tc := ⟨.hbm, 1240, rfl⟩
abbrev main_v1044 : Ref sig .tc := ⟨.hbm, 1241, rfl⟩
abbrev main_v1045 : Ref sig .tc := ⟨.hbm, 1242, rfl⟩
abbrev main_v1046 : Ref sig .tc := ⟨.hbm, 1243, rfl⟩
abbrev main_v1047 : Ref sig .tc := ⟨.hbm, 1244, rfl⟩
abbrev main_v1048 : Ref sig .tc := ⟨.hbm, 1245, rfl⟩
abbrev main_v1049 : Ref sig .tc := ⟨.hbm, 1246, rfl⟩
abbrev main_v1050 : Ref sig .tc := ⟨.hbm, 1247, rfl⟩
abbrev main_v1051 : Ref sig .tc := ⟨.hbm, 1248, rfl⟩
abbrev main_v1052 : Ref sig .tc := ⟨.hbm, 1249, rfl⟩
abbrev main_v1053 : Ref sig .tc := ⟨.hbm, 1250, rfl⟩
abbrev main_v1054 : Ref sig .tc := ⟨.hbm, 1251, rfl⟩
abbrev main_v1055 : Ref sig .tc := ⟨.hbm, 1252, rfl⟩
abbrev main_v1056 : Ref sig .tc := ⟨.hbm, 1253, rfl⟩
abbrev main_v1057 : Ref sig .tc := ⟨.hbm, 1254, rfl⟩
abbrev main_v1058 : Ref sig .tc := ⟨.hbm, 1255, rfl⟩
abbrev main_v1059 : Ref sig .tc := ⟨.hbm, 1256, rfl⟩
abbrev main_v1060 : Ref sig .tc := ⟨.hbm, 1257, rfl⟩
abbrev main_v1061 : Ref sig .tc := ⟨.hbm, 1258, rfl⟩
abbrev main_v1062 : Ref sig .tc := ⟨.hbm, 1259, rfl⟩
abbrev main_v1063 : Ref sig .tc := ⟨.hbm, 1260, rfl⟩
abbrev main_v1064 : Ref sig .tc := ⟨.hbm, 1261, rfl⟩
abbrev main_v1065 : Ref sig .tc := ⟨.hbm, 1262, rfl⟩
abbrev main_v1066 : Ref sig .tc := ⟨.hbm, 1263, rfl⟩
abbrev main_v1067 : Ref sig .tc := ⟨.hbm, 1264, rfl⟩
abbrev main_v1068 : Ref sig .tc := ⟨.hbm, 1265, rfl⟩
abbrev main_v1069 : Ref sig .tc := ⟨.hbm, 1266, rfl⟩
abbrev main_v1070 : Ref sig .tc := ⟨.hbm, 1267, rfl⟩
abbrev main_v1071 : Ref sig .tc := ⟨.hbm, 1268, rfl⟩
abbrev main_v1072 : Ref sig .tc := ⟨.hbm, 1269, rfl⟩
abbrev main_v1073 : Ref sig .tc := ⟨.hbm, 1270, rfl⟩
abbrev main_v1074 : Ref sig .tc := ⟨.hbm, 1271, rfl⟩
abbrev main_v1075 : Ref sig .tc := ⟨.hbm, 1272, rfl⟩
abbrev main_v1076 : Ref sig .tc := ⟨.hbm, 1273, rfl⟩
abbrev main_v1077 : Ref sig .tc := ⟨.hbm, 1274, rfl⟩
abbrev main_v1078 : Ref sig .tc := ⟨.hbm, 1275, rfl⟩
abbrev main_c_79 : Ref sig .tc := ⟨.hbm, 1276, rfl⟩
abbrev main_v1079 : Ref sig .tc := ⟨.hbm, 1277, rfl⟩
abbrev main_v1080 : Ref sig .tc := ⟨.hbm, 1278, rfl⟩
abbrev main_v1081 : Ref sig .tc := ⟨.hbm, 1279, rfl⟩
abbrev main_call26_v0 : Ref sig .tc := ⟨.hbm, 1280, rfl⟩
abbrev main_call26_v1 : Ref sig .tc := ⟨.hbm, 1281, rfl⟩
abbrev main_v1082 : Ref sig .tc := ⟨.hbm, 1282, rfl⟩
abbrev main_v1083 : Ref sig .tc := ⟨.hbm, 1283, rfl⟩
abbrev main_v1084 : Ref sig .tc := ⟨.hbm, 1284, rfl⟩
abbrev main_v1085 : Ref sig .tc := ⟨.hbm, 1285, rfl⟩
abbrev main_call27_c : Ref sig .tc := ⟨.hbm, 1286, rfl⟩
abbrev main_call27_v0 : Ref sig .tc := ⟨.hbm, 1287, rfl⟩
abbrev main_call27_v1 : Ref sig .tc := ⟨.hbm, 1288, rfl⟩
abbrev main_call27_c_0 : Ref sig .tc := ⟨.hbm, 1289, rfl⟩
abbrev main_call27_v2 : Ref sig .tc := ⟨.hbm, 1290, rfl⟩
abbrev main_call27_v3 : Ref sig .tc := ⟨.hbm, 1291, rfl⟩
abbrev main_call27_v4 : Ref sig .tc := ⟨.hbm, 1292, rfl⟩
abbrev main_v1086 : Ref sig .tc := ⟨.hbm, 1293, rfl⟩
abbrev main_v1087 : Ref sig .tc := ⟨.hbm, 1294, rfl⟩
abbrev main_v1088 : Ref sig .tc := ⟨.hbm, 1295, rfl⟩
abbrev main_v1089 : Ref sig .tc := ⟨.hbm, 1296, rfl⟩
abbrev main_v1090 : Ref sig .tc := ⟨.hbm, 1297, rfl⟩
abbrev main_v1091 : Ref sig .tc := ⟨.hbm, 1298, rfl⟩
abbrev main_v1092 : Ref sig .tc := ⟨.hbm, 1299, rfl⟩
abbrev main_v1093 : Ref sig .tc := ⟨.hbm, 1300, rfl⟩
abbrev main_v1094 : Ref sig .tc := ⟨.hbm, 1301, rfl⟩
abbrev main_v1095 : Ref sig .tc := ⟨.hbm, 1302, rfl⟩
abbrev main_v1096 : Ref sig .tc := ⟨.hbm, 1303, rfl⟩
abbrev main_v1097 : Ref sig .tc := ⟨.hbm, 1304, rfl⟩
abbrev main_v1098 : Ref sig .tc := ⟨.hbm, 1305, rfl⟩
abbrev main_v1099 : Ref sig .tc := ⟨.hbm, 1306, rfl⟩
abbrev main_v1100 : Ref sig .tc := ⟨.hbm, 1307, rfl⟩
abbrev main_cst_80 : Ref sig .tc := ⟨.hbm, 1308, rfl⟩
abbrev main_v1101 : Ref sig .tc := ⟨.hbm, 1309, rfl⟩
abbrev main_v1102 : Ref sig .tc := ⟨.hbm, 1310, rfl⟩
abbrev main_cst_81 : Ref sig .tc := ⟨.hbm, 1311, rfl⟩
abbrev main_v1103 : Ref sig .tc := ⟨.hbm, 1312, rfl⟩
abbrev main_v1104 : Ref sig .tc := ⟨.hbm, 1313, rfl⟩
abbrev main_v1105 : Ref sig .tc := ⟨.hbm, 1314, rfl⟩
abbrev main_v1106 : Ref sig .tc := ⟨.hbm, 1315, rfl⟩
abbrev main_v1107 : Ref sig .tc := ⟨.hbm, 1316, rfl⟩
abbrev main_v1108 : Ref sig .tc := ⟨.hbm, 1317, rfl⟩
abbrev main_v1109 : Ref sig .tc := ⟨.hbm, 1318, rfl⟩
abbrev main_v1110 : Ref sig .tc := ⟨.hbm, 1319, rfl⟩
abbrev main_v1111 : Ref sig .tc := ⟨.hbm, 1320, rfl⟩
abbrev main_v1112 : Ref sig .tc := ⟨.hbm, 1321, rfl⟩
abbrev main_v1113 : Ref sig .tc := ⟨.hbm, 1322, rfl⟩
abbrev main_v1114 : Ref sig .tc := ⟨.hbm, 1323, rfl⟩
abbrev main_v1115 : Ref sig .tc := ⟨.hbm, 1324, rfl⟩
abbrev main_v1116 : Ref sig .tc := ⟨.hbm, 1325, rfl⟩
abbrev main_v1117 : Ref sig .tc := ⟨.hbm, 1326, rfl⟩
abbrev main_v1118 : Ref sig .tc := ⟨.hbm, 1327, rfl⟩
abbrev main_v1119 : Ref sig .tc := ⟨.hbm, 1328, rfl⟩
abbrev main_v1120 : Ref sig .tc := ⟨.hbm, 1329, rfl⟩
abbrev main_v1121 : Ref sig .tc := ⟨.hbm, 1330, rfl⟩
abbrev main_v1122 : Ref sig .tc := ⟨.hbm, 1331, rfl⟩
abbrev main_v1123 : Ref sig .tc := ⟨.hbm, 1332, rfl⟩
abbrev main_v1124 : Ref sig .tc := ⟨.hbm, 1333, rfl⟩
abbrev main_v1125 : Ref sig .tc := ⟨.hbm, 1334, rfl⟩
abbrev main_cst_82 : Ref sig .tc := ⟨.hbm, 1335, rfl⟩
abbrev main_v1126 : Ref sig .tc := ⟨.hbm, 1336, rfl⟩
abbrev main_v1127 : Ref sig .tc := ⟨.hbm, 1337, rfl⟩
abbrev main_cst_83 : Ref sig .tc := ⟨.hbm, 1338, rfl⟩
abbrev main_v1128 : Ref sig .tc := ⟨.hbm, 1339, rfl⟩
abbrev main_v1129 : Ref sig .tc := ⟨.hbm, 1340, rfl⟩
abbrev main_v1130 : Ref sig .tc := ⟨.hbm, 1341, rfl⟩
abbrev main_v1131 : Ref sig .tc := ⟨.hbm, 1342, rfl⟩
abbrev main_v1132 : Ref sig .tc := ⟨.hbm, 1343, rfl⟩
abbrev main_v1133 : Ref sig .tc := ⟨.hbm, 1344, rfl⟩
abbrev main_v1134 : Ref sig .tc := ⟨.hbm, 1345, rfl⟩
abbrev main_v1135 : Ref sig .tc := ⟨.hbm, 1346, rfl⟩
abbrev main_v1136 : Ref sig .tc := ⟨.hbm, 1347, rfl⟩
abbrev main_v1137 : Ref sig .tc := ⟨.hbm, 1348, rfl⟩
abbrev main_v1138 : Ref sig .tc := ⟨.hbm, 1349, rfl⟩
abbrev main_v1139 : Ref sig .tc := ⟨.hbm, 1350, rfl⟩
abbrev main_v1140 : Ref sig .tc := ⟨.hbm, 1351, rfl⟩
abbrev main_v1141 : Ref sig .tc := ⟨.hbm, 1352, rfl⟩
abbrev main_v1142 : Ref sig .tc := ⟨.hbm, 1353, rfl⟩
abbrev main_v1143 : Ref sig .tc := ⟨.hbm, 1354, rfl⟩
abbrev main_v1144 : Ref sig .tc := ⟨.hbm, 1355, rfl⟩
abbrev main_v1145 : Ref sig .tc := ⟨.hbm, 1356, rfl⟩
abbrev main_v1146 : Ref sig .tc := ⟨.hbm, 1357, rfl⟩
abbrev main_v1147 : Ref sig .tc := ⟨.hbm, 1358, rfl⟩
abbrev main_v1148 : Ref sig .tc := ⟨.hbm, 1359, rfl⟩
abbrev main_v1149 : Ref sig .tc := ⟨.hbm, 1360, rfl⟩
abbrev main_v1150 : Ref sig .tc := ⟨.hbm, 1361, rfl⟩
abbrev main_v1151 : Ref sig .tc := ⟨.hbm, 1362, rfl⟩
abbrev main_v1152 : Ref sig .tc := ⟨.hbm, 1363, rfl⟩
abbrev main_v1153 : Ref sig .tc := ⟨.hbm, 1364, rfl⟩
abbrev main_v1154 : Ref sig .tc := ⟨.hbm, 1365, rfl⟩
abbrev main_v1155 : Ref sig .tc := ⟨.hbm, 1366, rfl⟩
abbrev main_v1156 : Ref sig .tc := ⟨.hbm, 1367, rfl⟩
abbrev main_v1157 : Ref sig .tc := ⟨.hbm, 1368, rfl⟩
abbrev main_v1158 : Ref sig .tc := ⟨.hbm, 1369, rfl⟩
abbrev main_v1159 : Ref sig .tc := ⟨.hbm, 1370, rfl⟩
abbrev main_v1160 : Ref sig .tc := ⟨.hbm, 1371, rfl⟩
abbrev main_v1161 : Ref sig .tc := ⟨.hbm, 1372, rfl⟩
abbrev main_v1162 : Ref sig .tc := ⟨.hbm, 1373, rfl⟩
abbrev main_v1163 : Ref sig .tc := ⟨.hbm, 1374, rfl⟩
abbrev main_v1164 : Ref sig .tc := ⟨.hbm, 1375, rfl⟩
abbrev main_v1165 : Ref sig .tc := ⟨.hbm, 1376, rfl⟩
abbrev main_v1166 : Ref sig .tc := ⟨.hbm, 1377, rfl⟩
abbrev main_v1167 : Ref sig .tc := ⟨.hbm, 1378, rfl⟩
abbrev main_v1168 : Ref sig .tc := ⟨.hbm, 1379, rfl⟩
abbrev main_v1169 : Ref sig .tc := ⟨.hbm, 1380, rfl⟩
abbrev main_v1170 : Ref sig .tc := ⟨.hbm, 1381, rfl⟩
abbrev main_v1171 : Ref sig .tc := ⟨.hbm, 1382, rfl⟩
abbrev main_v1172 : Ref sig .tc := ⟨.hbm, 1383, rfl⟩
abbrev main_v1173 : Ref sig .tc := ⟨.hbm, 1384, rfl⟩
abbrev main_c_84 : Ref sig .tc := ⟨.hbm, 1385, rfl⟩
abbrev main_v1174 : Ref sig .tc := ⟨.hbm, 1386, rfl⟩
abbrev main_v1175 : Ref sig .tc := ⟨.hbm, 1387, rfl⟩
abbrev main_v1176 : Ref sig .tc := ⟨.hbm, 1388, rfl⟩
abbrev main_call28_v0 : Ref sig .tc := ⟨.hbm, 1389, rfl⟩
abbrev main_call28_v1 : Ref sig .tc := ⟨.hbm, 1390, rfl⟩
abbrev main_v1177 : Ref sig .tc := ⟨.hbm, 1391, rfl⟩
abbrev main_c_85 : Ref sig .tc := ⟨.hbm, 1392, rfl⟩
abbrev main_v1178 : Ref sig .tc := ⟨.hbm, 1393, rfl⟩
abbrev main_v1179 : Ref sig .tc := ⟨.hbm, 1394, rfl⟩
abbrev main_c_86 : Ref sig .tc := ⟨.hbm, 1395, rfl⟩
abbrev main_v1180 : Ref sig .tc := ⟨.hbm, 1396, rfl⟩
abbrev main_v1181 : Ref sig .tc := ⟨.hbm, 1397, rfl⟩
abbrev main_v1182 : Ref sig .tc := ⟨.hbm, 1398, rfl⟩
abbrev main_v1183 : Ref sig .tc := ⟨.hbm, 1399, rfl⟩
abbrev main_v1184 : Ref sig .tc := ⟨.hbm, 1400, rfl⟩
abbrev main_v1185 : Ref sig .tc := ⟨.hbm, 1401, rfl⟩
abbrev main_c_87 : Ref sig .tc := ⟨.hbm, 1402, rfl⟩
abbrev main_v1186 : Ref sig .tc := ⟨.hbm, 1403, rfl⟩
abbrev main_v1187 : Ref sig .tc := ⟨.hbm, 1404, rfl⟩
abbrev main_v1188 : Ref sig .tc := ⟨.hbm, 1405, rfl⟩
abbrev main_v1189 : Ref sig .tc := ⟨.hbm, 1406, rfl⟩
abbrev main_v1190 : Ref sig .tc := ⟨.hbm, 1407, rfl⟩
abbrev main_v1191 : Ref sig .tc := ⟨.hbm, 1408, rfl⟩
abbrev main_v1192 : Ref sig .tc := ⟨.hbm, 1409, rfl⟩
abbrev main_v1193 : Ref sig .tc := ⟨.hbm, 1410, rfl⟩
abbrev main_v1194 : Ref sig .tc := ⟨.hbm, 1411, rfl⟩
abbrev main_v1195 : Ref sig .tc := ⟨.hbm, 1412, rfl⟩
abbrev main_v1196 : Ref sig .tc := ⟨.hbm, 1413, rfl⟩
abbrev main_v1197 : Ref sig .tc := ⟨.hbm, 1414, rfl⟩
abbrev main_v1198 : Ref sig .tc := ⟨.hbm, 1415, rfl⟩
abbrev main_v1199 : Ref sig .tc := ⟨.hbm, 1416, rfl⟩
abbrev main_v1200 : Ref sig .tc := ⟨.hbm, 1417, rfl⟩

abbrev nD : Nat := 1
abbrev τ : Topo := Topo.v7x

variable {F : FTy → Type} [FloatOps F]
-- ==== Proof.Tables.lean ====
module

public import proofs.«01_k».proof.ReferenceIdeal

/-!
# The residue tables

The literal tables that the reference indexes with a residue's type, read at their coordinates: a type is a number below
20, an atom slot a number below 14, a side chain atom a number below 10.
-/

@[expose] public section

set_option maxRecDepth 16384

noncomputable section

namespace Cert.Res

open Cert.ReferenceIdeal

/-- The atom slot that bounds the `k`-th torsion of type `a` at position `t`. -/
def chiAtom (a : Fin 20) (k t : Fin 4) : Fin 14 :=
  ⟨(lit0 ⟨16 * a.val + 4 * k.val + t.val, by omega⟩).toNat % 14, Nat.mod_lt _ (by decide)⟩

/-- The side chain atom that the `k`-th torsion of type `a` turns. -/
def turned (a : Fin 20) (k : Fin 4) : BitVec 32 := lit5 ⟨4 * a.val + k.val, by omega⟩

/-- The `t`-th parent slot of the `i`-th side chain atom of type `a`. -/
def parent (a : Fin 20) (i : Fin 10) (t : Fin 3) : Fin 14 :=
  ⟨(lit6 ⟨30 * a.val + 3 * i.val + t.val, by omega⟩).toNat % 14, Nat.mod_lt _ (by decide)⟩

/-- The bond length, bond angle and dihedral angle of the `i`-th side chain atom of type `a`, as binary32 patterns. -/
def bond (a : Fin 20) (i : Fin 10) : BitVec 32 := lit2 ⟨10 * a.val + i.val, by omega⟩
@[inherit_doc bond] def angle (a : Fin 20) (i : Fin 10) : BitVec 32 := lit3 ⟨10 * a.val + i.val, by omega⟩
@[inherit_doc bond] def dihedral (a : Fin 20) (i : Fin 10) : BitVec 32 := lit4 ⟨10 * a.val + i.val, by omega⟩

/-- How many torsions and how many atoms a residue of type `a` has. -/
def numChi (a : Fin 20) : BitVec 32 := lit1 a
@[inherit_doc numChi] def numAtoms (a : Fin 20) : BitVec 32 := lit7 a

/-- The binary32 pattern of a small natural number. -/
def natBits : ℕ → BitVec 32
  | 0 => 0#32 | 1 => 0x3F800000#32 | 2 => 0x40000000#32 | 3 => 0x40400000#32 | 4 => 0x40800000#32
  | 5 => 0x40A00000#32 | 6 => 0x40C00000#32 | 7 => 0x40E00000#32 | 8 => 0x41000000#32 | 9 => 0x41100000#32
  | 10 => 0x41200000#32 | 11 => 0x41300000#32 | 12 => 0x41400000#32 | 13 => 0x41500000#32 | _ => 0x41600000#32

/-- The types of which the `k`-th torsion turns side chain atom `i`. -/
def turners (i : Fin 10) (k : Fin 4) : List (Fin 20) :=
  (List.finRange 20).filter fun a => turned a k == BitVec.ofNat 32 i.val

end Cert.Res

end
-- ==== Proof.Spec.lean ====
module

public import proofs.«01_k».proof.Proof.Tables
public import Idealize.ShloMosaic.Lib.IdealHost

/-!
# One residue's atoms

What both programs compute for one residue of type `a` from its fourteen atom positions and its chain entry, over the
extended reals: four torsion angles of given atoms, ten side chain atoms placed one after the other from three parents
each, and the atoms past the type's count set to zero times their position.
-/

@[expose] public section

noncomputable section

namespace Cert.Res

open Idealize.ShloMosaic

/-- Three coordinates. -/
abbrev Vec3 := Fin 3 → EReal

def sub3 (p q : Vec3) : Vec3 := fun c => p c - q c

/-- A sum of three products, in order. -/
def dot (a b : Vec3) : EReal := (a 0 * b 0 + a 1 * b 1) + a 2 * b 2

/-- A vector over its length, a small constant added to the sum of squares. -/
def normed (v : Vec3) : Vec3 := fun c => Ideal.div (v c) (Ideal.sqrt (dot v v + Ideal.ofBits .f32 0x358637BD#32))

def cross (a b : Vec3) : Vec3 := ![a 1 * b 2 - a 2 * b 1, a 2 * b 0 - a 0 * b 2, a 0 * b 1 - a 1 * b 0]

/-- The torsion angle from the three unit bond vectors. -/
def torsion (u1 u2 u3 : Vec3) : EReal :=
  Ideal.atan2 (dot u2 (cross (normed (cross u1 u2)) (normed (cross u2 u3))))
    (dot (normed (cross u1 u2)) (normed (cross u2 u3)))

/-- One where `k` is below the count, zero elsewhere. -/
def below (k : ℕ) (n : EReal) : EReal := if (k : EReal) < n then 1 else 0

/-- A count, zero at a residue whose chain entry is not positive. -/
def count (n ch : BitVec 32) : EReal := ((n.toNat : ℕ) : EReal) * if (0#32).slt ch then 1 else 0

/-- The `k`-th torsion angle, zero where the type has fewer. -/
def chi (a : Fin 20) (ch : BitVec 32) (x : Fin 14 → Vec3) (k : Fin 4) : EReal :=
  torsion (normed (sub3 (x (chiAtom a k 1)) (x (chiAtom a k 0)))) (normed (sub3 (x (chiAtom a k 2)) (x (chiAtom a k 1))))
      (normed (sub3 (x (chiAtom a k 3)) (x (chiAtom a k 2)))) *
    below k.val (count (numChi a) ch)

/-- The table's value `d`, or that of the last torsion which turns side chain atom `i`. -/
def turn (a : Fin 20) (i : Fin 10) (d : EReal) (t : Fin 4 → EReal) : EReal :=
  let hit (k : Fin 4) := turned a k = BitVec.ofNat 32 i.val
  if hit 3 then t 3 else if hit 2 then t 2 else if hit 1 then t 1 else if hit 0 then t 0 else d

/-- A function of the value turned is the function's values turned. -/
theorem apply_turn (f : EReal → EReal) (a : Fin 20) (i : Fin 10) (d : EReal) (t : Fin 4 → EReal) :
    f (turn a i d t) = turn a i (f d) (fun k => f (t k)) := by
  unfold turn; simp only [apply_ite f]

/-- The position past three parents, from the bond length and the cosines and sines of the two angles. -/
def place (p1 p2 p3 : Vec3) (len cA sA cD sD : EReal) : Vec3 := fun c =>
  p3 c + len * ((-cA * normed (sub3 p3 p2) c
    + sA * cD * cross (normed (cross (sub3 p1 p2) (normed (sub3 p3 p2)))) (normed (sub3 p3 p2)) c)
    + sA * sD * normed (cross (sub3 p1 p2) (normed (sub3 p3 p2))) c)

/-- Side chain atom `i` from the atoms so far. -/
def atom (a : Fin 20) (q : Fin 14 → Vec3) (t : Fin 4 → EReal) (i : Fin 10) : Vec3 :=
  place (q (parent a i 0)) (q (parent a i 1)) (q (parent a i 2)) (Ideal.ofBits .f32 (bond a i))
    (Ideal.cos (Ideal.ofBits .f32 (angle a i))) (Ideal.sin (Ideal.ofBits .f32 (angle a i)))
    (Ideal.cos (turn a i (Ideal.ofBits .f32 (dihedral a i)) t)) (Ideal.sin (turn a i (Ideal.ofBits .f32 (dihedral a i)) t))

/-- One atom placed in its slot. -/
def step (a : Fin 20) (t : Fin 4 → EReal) (i : Fin 10) (q : Fin 14 → Vec3) : Fin 14 → Vec3 := fun p =>
  if p.val = 4 + i.val then atom a q t i else q p

/-- The atoms after the first `n` of the side chain are placed: the four given ones, then those. -/
def state (a : Fin 20) (x : Fin 14 → Vec3) (t : Fin 4 → EReal) : (n : ℕ) → n ≤ 10 → Fin 14 → Vec3
  | 0, _ => fun p c => if p.val < 4 then x p c else 0
  | n + 1, h => step a t ⟨n, h⟩ (state a x t n (Nat.le_of_succ_le h))

/-- The residue's result. -/
def residue (a : Fin 20) (ch : BitVec 32) (x : Fin 14 → Vec3) (p : Fin 14) : Vec3 := fun c =>
  below p.val (count (numAtoms a) ch) * state a x (chi a ch x) 10 le_rfl p c

end Cert.Res

end
-- ==== Proof.RefRead.lean ====
module

public import proofs.«01_k».proof.Proof.Spec
public import proofs.«01_k».proof.Proof.Gen.ReferenceIdeal
public import Idealize.ShloMosaic.Lib.ValueLayout

/-!
# Reading the reference's arrays

The reference's gathers at an index — a table's row of the residue's type, and the atom a table names — and its
broadcasts, slices, reshapes and concatenations.
-/

@[expose] public section

noncomputable section

namespace Cert.ReferenceIdeal.Read

open Idealize.ShloMosaic Idealize.ShloMosaic.TcCoe
open Idealize.ShloMosaic.ValueIdx Cert.ReferenceIdeal Cert.ReferenceIdeal.Gen Cert.Res

variable {α : Type} {a : Fin 20} (b : Fin 16) (r : Fin 4096)

theorem clamp {w : BitVec 32} {n m : ℕ} (h : w = BitVec.ofNat 32 n) (hn : n ≤ m) (hm : m < 32) : min w.toInt.toNat m = n := by
  subst h
  have : (BitVec.ofNat 32 n).toInt = n := by
    rw [BitVec.toInt_eq_toNat_cond, BitVec.toNat_ofNat, Nat.mod_eq_of_lt (by omega), if_pos (by omega)]
  rw [this]
  simp only [Int.toNat_natCast]
  omega

theorem gather_row (x : S20.Idx → α) (idx : IVec S16x4096x1 32) (h : idx (ix3 b r 0) = BitVec.ofNat 32 a.val) :
    Host.gather gather_S20_S16x4096x1_S16x4096_n_0_n_n_0_2_1 x idx (ix2 b r) = x (ix1 a) := by
  unfold Host.gather
  refine congrArg x (funext fun k => Fin.ext ?_)
  have hi : gather_S20_S16x4096x1_S16x4096_n_0_n_n_0_2_1.siIdx (ix2 b r) ⟨0, Nat.one_pos⟩ = ix3 b r 0 := by
    funext k; fin_cases k <;> rfl
  fin_cases k
  · exact clamp (by rw [← h, ← hi]; rfl) (by omega : a.val ≤ 19) (by decide)

theorem gather_row10 (x : S20x10.Idx → α) (idx : IVec S16x4096x1 32) (h : idx (ix3 b r 0) = BitVec.ofNat 32 a.val) (i : Fin 10) :
    Host.gather gather_S20x10_S16x4096x1_S16x4096x10_2_0_n_n_0_2_110 x idx (ix3 b r i) = x (ix2 a i) := by
  unfold Host.gather
  refine congrArg x (funext fun k => Fin.ext ?_)
  have hi : gather_S20x10_S16x4096x1_S16x4096x10_2_0_n_n_0_2_110.siIdx (ix3 b r i) ⟨0, Nat.one_pos⟩ = ix3 b r 0 := by
    funext k; fin_cases k <;> rfl
  fin_cases k
  · exact clamp (by rw [← h, ← hi]; rfl) (by omega : a.val ≤ 19) (by decide)
  · exact Nat.zero_add _

theorem gather_row4 (x : S20x4.Idx → α) (idx : IVec S16x4096x1 32) (h : idx (ix3 b r 0) = BitVec.ofNat 32 a.val) (i : Fin 4) :
    Host.gather gather_S20x4_S16x4096x1_S16x4096x4_2_0_n_n_0_2_14 x idx (ix3 b r i) = x (ix2 a i) := by
  unfold Host.gather
  refine congrArg x (funext fun k => Fin.ext ?_)
  have hi : gather_S20x4_S16x4096x1_S16x4096x4_2_0_n_n_0_2_14.siIdx (ix3 b r i) ⟨0, Nat.one_pos⟩ = ix3 b r 0 := by
    funext k; fin_cases k <;> rfl
  fin_cases k
  · exact clamp (by rw [← h, ← hi]; rfl) (by omega : a.val ≤ 19) (by decide)
  · exact Nat.zero_add _

theorem gather_row10x3 (x : S20x10x3.Idx → α) (idx : IVec S16x4096x1 32) (h : idx (ix3 b r 0) = BitVec.ofNat 32 a.val) (i : Fin 10) (t : Fin 3) :
    Host.gather gather_S20x10x3_S16x4096x1_S16x4096x10x3_23_0_n_n_0_2_1103 x idx (ix4 b r i t) = x (ix3 a i t) := by
  unfold Host.gather
  refine congrArg x (funext fun k => Fin.ext ?_)
  have hi : gather_S20x10x3_S16x4096x1_S16x4096x10x3_23_0_n_n_0_2_1103.siIdx (ix4 b r i t) ⟨0, Nat.one_pos⟩ = ix3 b r 0 := by
    funext k; fin_cases k <;> rfl
  fin_cases k
  · exact clamp (by rw [← h, ← hi]; rfl) (by omega : a.val ≤ 19) (by decide)
  · exact Nat.zero_add _
  · exact Nat.zero_add _

theorem gather_row4x4 (x : S20x4x4.Idx → α) (idx : IVec S16x4096x1 32) (h : idx (ix3 b r 0) = BitVec.ofNat 32 a.val) (i : Fin 4) (t : Fin 4) :
    Host.gather gather_S20x4x4_S16x4096x1_S16x4096x4x4_23_0_n_n_0_2_144 x idx (ix4 b r i t) = x (ix3 a i t) := by
  unfold Host.gather
  refine congrArg x (funext fun k => Fin.ext ?_)
  have hi : gather_S20x4x4_S16x4096x1_S16x4096x4x4_23_0_n_n_0_2_144.siIdx (ix4 b r i t) ⟨0, Nat.one_pos⟩ = ix3 b r 0 := by
    funext k; fin_cases k <;> rfl
  fin_cases k
  · exact clamp (by rw [← h, ← hi]; rfl) (by omega : a.val ≤ 19) (by decide)
  · exact Nat.zero_add _
  · exact Nat.zero_add _

theorem gather_atom4 (x : S16x4096x14x3.Idx → α) (idx : IVec S16x4096x4x1 32) (i : Fin 4) (c : Fin 3) (p : Fin 14)
    (h : idx (ix4 b r i 0) = BitVec.ofNat 32 p.val) :
    Host.gather gather_S16x4096x14x3_S16x4096x4x1_S16x4096x4x3_3_2_01_01_2_3_1113 x idx (ix4 b r i c) = x (ix4 b r p c) := by
  unfold Host.gather
  refine congrArg x (funext fun k => Fin.ext ?_)
  have hi : gather_S16x4096x14x3_S16x4096x4x1_S16x4096x4x3_3_2_01_01_2_3_1113.siIdx (ix4 b r i c) ⟨0, Nat.one_pos⟩ = ix4 b r i 0 := by
    funext k; fin_cases k <;> rfl
  fin_cases k
  · exact Nat.zero_add _
  · exact Nat.zero_add _
  · exact clamp (by rw [← h, ← hi]; rfl) (by omega : p.val ≤ 13) (by decide)
  · exact Nat.zero_add _

theorem gather_atom3 (x : S16x4096x14x3.Idx → α) (idx : IVec S16x4096x3x1 32) (i : Fin 3) (c : Fin 3) (p : Fin 14)
    (h : idx (ix4 b r i 0) = BitVec.ofNat 32 p.val) :
    Host.gather gather_S16x4096x14x3_S16x4096x3x1_S16x4096x3x3_3_2_01_01_2_3_1113 x idx (ix4 b r i c) = x (ix4 b r p c) := by
  unfold Host.gather
  refine congrArg x (funext fun k => Fin.ext ?_)
  have hi : gather_S16x4096x14x3_S16x4096x3x1_S16x4096x3x3_3_2_01_01_2_3_1113.siIdx (ix4 b r i c) ⟨0, Nat.one_pos⟩ = ix4 b r i 0 := by
    funext k; fin_cases k <;> rfl
  fin_cases k
  · exact Nat.zero_add _
  · exact Nat.zero_add _
  · exact clamp (by rw [← h, ← hi]; rfl) (by omega : p.val ≤ 13) (by decide)
  · exact Nat.zero_add _

variable (k : Fin 1)

theorem bc_unit (x : S16x4096.Idx → α) (h : S16x4096.BroadcastsInDim S16x4096x1 ![0, 1]) :
    broadcastInDim S16x4096x1 ![0, 1] h x (ix3 b r k) = x (ix2 b r) :=
  broadcastInDim_apply _ h x _ _ fun a => by fin_cases a <;> rfl

theorem bc_unit4 (i : Fin 4) (x : S16x4096x4.Idx → α) (h : S16x4096x4.BroadcastsInDim S16x4096x4x1 ![0, 1, 2]) :
    broadcastInDim S16x4096x4x1 ![0, 1, 2] h x (ix4 b r i k) = x (ix3 b r i) :=
  broadcastInDim_apply _ h x _ _ fun a => by fin_cases a <;> rfl

theorem bc_unit3 (i : Fin 3) (x : S16x4096x3.Idx → α) (h : S16x4096x3.BroadcastsInDim S16x4096x3x1 ![0, 1, 2]) :
    broadcastInDim S16x4096x3x1 ![0, 1, 2] h x (ix4 b r i k) = x (ix3 b r i) :=
  broadcastInDim_apply _ h x _ _ fun a => by fin_cases a <;> rfl

theorem bc_unit14 (i : Fin 14) (x : S16x4096x14.Idx → α) (h : S16x4096x14.BroadcastsInDim S16x4096x14x1 ![0, 1, 2]) :
    broadcastInDim S16x4096x14x1 ![0, 1, 2] h x (ix4 b r i k) = x (ix3 b r i) :=
  broadcastInDim_apply _ h x _ _ fun a => by fin_cases a <;> rfl

theorem bc_axis4x3 (i : Fin 4) (c : Fin 3) (x : S16x4096x4x1.Idx → α) (h : S16x4096x4x1.BroadcastsInDim S16x4096x4x3 ![0, 1, 2, 3]) :
    broadcastInDim S16x4096x4x3 ![0, 1, 2, 3] h x (ix4 b r i c) = x (ix4 b r i 0) :=
  broadcastInDim_apply _ h x _ _ fun a => by fin_cases a <;> rfl

theorem bc_axis14x3 (i : Fin 14) (c : Fin 3) (x : S16x4096x14x1.Idx → α) (h : S16x4096x14x1.BroadcastsInDim S16x4096x14x3 ![0, 1, 2, 3]) :
    broadcastInDim S16x4096x14x3 ![0, 1, 2, 3] h x (ix4 b r i c) = x (ix4 b r i 0) :=
  broadcastInDim_apply _ h x _ _ fun a => by fin_cases a <;> rfl

theorem bc_axis3 (i : Fin 3) (x : S16x4096x1.Idx → α) (h : S16x4096x1.BroadcastsInDim S16x4096x3 ![0, 1, 2]) :
    broadcastInDim S16x4096x3 ![0, 1, 2] h x (ix3 b r i) = x (ix3 b r 0) :=
  broadcastInDim_apply _ h x _ _ fun a => by fin_cases a <;> rfl

theorem bc_axis4 (i : Fin 4) (x : S16x4096x1.Idx → α) (h : S16x4096x1.BroadcastsInDim S16x4096x4 ![0, 1, 2]) :
    broadcastInDim S16x4096x4 ![0, 1, 2] h x (ix3 b r i) = x (ix3 b r 0) :=
  broadcastInDim_apply _ h x _ _ fun a => by fin_cases a <;> rfl

theorem bc_axis10 (i : Fin 10) (x : S16x4096x1.Idx → α) (h : S16x4096x1.BroadcastsInDim S16x4096x10 ![0, 1, 2]) :
    broadcastInDim S16x4096x10 ![0, 1, 2] h x (ix3 b r i) = x (ix3 b r 0) :=
  broadcastInDim_apply _ h x _ _ fun a => by fin_cases a <;> rfl

theorem bc_axis14 (i : Fin 14) (x : S16x4096x1.Idx → α) (h : S16x4096x1.BroadcastsInDim S16x4096x14 ![0, 1, 2]) :
    broadcastInDim S16x4096x14 ![0, 1, 2] h x (ix3 b r i) = x (ix3 b r 0) :=
  broadcastInDim_apply _ h x _ _ fun a => by fin_cases a <;> rfl

theorem bc_all4 (i : Fin 4) (x : S1x1x4.Idx → α) (h : S1x1x4.BroadcastsInDim S16x4096x4 ![0, 1, 2]) :
    broadcastInDim S16x4096x4 ![0, 1, 2] h x (ix3 b r i) = x (ix3 0 0 i) :=
  broadcastInDim_apply _ h x _ _ fun a => by fin_cases a <;> rfl

theorem bc_lift4 (k' : Fin 1) (i : Fin 4) (x : S4.Idx → α) (h : S4.BroadcastsInDim S1x1x4 ![2]) :
    broadcastInDim S1x1x4 ![2] h x (ix3 k k' i) = x (ix1 i) :=
  broadcastInDim_apply _ h x _ _ fun a => by fin_cases a <;> rfl

theorem bc_all10 (i : Fin 10) (x : S1x1x10.Idx → α) (h : S1x1x10.BroadcastsInDim S16x4096x10 ![0, 1, 2]) :
    broadcastInDim S16x4096x10 ![0, 1, 2] h x (ix3 b r i) = x (ix3 0 0 i) :=
  broadcastInDim_apply _ h x _ _ fun a => by fin_cases a <;> rfl

theorem bc_lift10 (k' : Fin 1) (i : Fin 10) (x : S10.Idx → α) (h : S10.BroadcastsInDim S1x1x10 ![2]) :
    broadcastInDim S1x1x10 ![2] h x (ix3 k k' i) = x (ix1 i) :=
  broadcastInDim_apply _ h x _ _ fun a => by fin_cases a <;> rfl

theorem bc_all14 (i : Fin 14) (x : S1x1x14.Idx → α) (h : S1x1x14.BroadcastsInDim S16x4096x14 ![0, 1, 2]) :
    broadcastInDim S16x4096x14 ![0, 1, 2] h x (ix3 b r i) = x (ix3 0 0 i) :=
  broadcastInDim_apply _ h x _ _ fun a => by fin_cases a <;> rfl

theorem bc_lift14 (k' : Fin 1) (i : Fin 14) (x : S14.Idx → α) (h : S14.BroadcastsInDim S1x1x14 ![2]) :
    broadcastInDim S1x1x14 ![2] h x (ix3 k k' i) = x (ix1 i) :=
  broadcastInDim_apply _ h x _ _ fun a => by fin_cases a <;> rfl

theorem bc_slots (k' k'' : Fin 1) (i : Fin 14) (x : S14.Idx → α) (h : S14.BroadcastsInDim S1x1x14x1 ![2]) :
    broadcastInDim S1x1x14x1 ![2] h x (ix4 k k' i k'') = x (ix1 i) :=
  broadcastInDim_apply _ h x _ _ fun a => by fin_cases a <;> rfl

theorem bc_slots_all (i : Fin 14) (c : Fin 3) (x : S1x1x14x1.Idx → α) (h : S1x1x14x1.BroadcastsInDim S16x4096x14x3 ![0, 1, 2, 3]) :
    broadcastInDim S16x4096x14x3 ![0, 1, 2, 3] h x (ix4 b r i c) = x (ix4 0 0 i 0) :=
  broadcastInDim_apply _ h x _ _ fun a => by fin_cases a <;> rfl

theorem bc_point (c : Fin 3) (x : S16x4096x3.Idx → α) (h : S16x4096x3.BroadcastsInDim S16x4096x1x3 ![0, 1, 3]) :
    broadcastInDim S16x4096x1x3 ![0, 1, 3] h x (ix4 b r k c) = x (ix3 b r c) :=
  broadcastInDim_apply _ h x _ _ fun a => by fin_cases a <;> rfl

theorem bc_point14 (i : Fin 14) (c : Fin 3) (x : S16x4096x1x3.Idx → α) (h : S16x4096x1x3.BroadcastsInDim S16x4096x14x3 ![0, 1, 2, 3]) :
    broadcastInDim S16x4096x14x3 ![0, 1, 2, 3] h x (ix4 b r i c) = x (ix4 b r 0 c) :=
  broadcastInDim_apply _ h x _ _ fun a => by fin_cases a <;> rfl

theorem slice_named (i t : Fin 4) (x : S16x4096x4x4.Idx → α) (h : S16x4096x4x4.Slices ![0, 0, 0, t.val] S16x4096x4x1) :
    extractStridedSlice S16x4096x4x1 ![0, 0, 0, t.val] x h (ix4 b r i k) = x (ix4 b r i t) :=
  extractStridedSlice_apply _ x h _ _ fun a => by fin_cases a <;> first | exact (Nat.zero_add _).symm | exact show _ = _ + k.val by simp

theorem slice_coord4 (i : Fin 4) (t : Fin 3) (x : S16x4096x4x3.Idx → α) (h : S16x4096x4x3.Slices ![0, 0, 0, t.val] S16x4096x4x1) :
    extractStridedSlice S16x4096x4x1 ![0, 0, 0, t.val] x h (ix4 b r i k) = x (ix4 b r i t) :=
  extractStridedSlice_apply _ x h _ _ fun a => by fin_cases a <;> first | exact (Nat.zero_add _).symm | exact show _ = _ + k.val by simp

theorem slice_coord (t : Fin 3) (x : S16x4096x3.Idx → α) (h : S16x4096x3.Slices ![0, 0, t.val] S16x4096x1) :
    extractStridedSlice S16x4096x1 ![0, 0, t.val] x h (ix3 b r k) = x (ix3 b r t) :=
  extractStridedSlice_apply _ x h _ _ fun a => by fin_cases a <;> first | exact (Nat.zero_add _).symm | exact show _ = _ + k.val by simp

theorem slice_of4 (t : Fin 4) (x : S16x4096x4.Idx → α) (h : S16x4096x4.Slices ![0, 0, t.val] S16x4096x1) :
    extractStridedSlice S16x4096x1 ![0, 0, t.val] x h (ix3 b r k) = x (ix3 b r t) :=
  extractStridedSlice_apply _ x h _ _ fun a => by fin_cases a <;> first | exact (Nat.zero_add _).symm | exact show _ = _ + k.val by simp

theorem slice_of10 (t : Fin 10) (x : S16x4096x10.Idx → α) (h : S16x4096x10.Slices ![0, 0, t.val] S16x4096x1) :
    extractStridedSlice S16x4096x1 ![0, 0, t.val] x h (ix3 b r k) = x (ix3 b r t) :=
  extractStridedSlice_apply _ x h _ _ fun a => by fin_cases a <;> first | exact (Nat.zero_add _).symm | exact show _ = _ + k.val by simp

theorem slice_of10x3 (t : Fin 10) (c : Fin 3) (x : S16x4096x10x3.Idx → α) (h : S16x4096x10x3.Slices ![0, 0, t.val, 0] S16x4096x1x3) :
    extractStridedSlice S16x4096x1x3 ![0, 0, t.val, 0] x h (ix4 b r k c) = x (ix4 b r t c) :=
  extractStridedSlice_apply _ x h _ _ fun a => by fin_cases a <;> first | exact (Nat.zero_add _).symm | exact show _ = _ + k.val by simp

theorem slice_of3x3 (t c : Fin 3) (x : S16x4096x3x3.Idx → α) (h : S16x4096x3x3.Slices ![0, 0, t.val, 0] S16x4096x1x3) :
    extractStridedSlice S16x4096x1x3 ![0, 0, t.val, 0] x h (ix4 b r k c) = x (ix4 b r t c) :=
  extractStridedSlice_apply _ x h _ _ fun a => by fin_cases a <;> first | exact (Nat.zero_add _).symm | exact show _ = _ + k.val by simp

theorem cast_drop (x : S16x4096x1.Idx → α) (h : S16x4096x1.ShapeCasts S16x4096) :
    shapeCast S16x4096 x h (ix2 b r) = x (ix3 b r 0) := by
  refine shapeCast_apply x h _ _ ?_
  rw [Shape.rowMajor_val_three, Shape.rowMajor_val_two]
  simp [ix2, ix3, ix4]

theorem cast_drop4 (i : Fin 4) (x : S16x4096x4x1.Idx → α) (h : S16x4096x4x1.ShapeCasts S16x4096x4) :
    shapeCast S16x4096x4 x h (ix3 b r i) = x (ix4 b r i 0) := by
  refine shapeCast_apply x h _ _ ?_
  rw [Shape.rowMajor_val_four, Shape.rowMajor_val_three]
  simp [ix2, ix3, ix4]

theorem cast_mid (c : Fin 3) (x : S16x4096x1x3.Idx → α) (h : S16x4096x1x3.ShapeCasts S16x4096x3) :
    shapeCast S16x4096x3 x h (ix3 b r c) = x (ix4 b r 0 c) := by
  refine shapeCast_apply x h _ _ ?_
  rw [Shape.rowMajor_val_four, Shape.rowMajor_val_three]
  simp [ix2, ix3, ix4]

theorem concat4 (i : Fin 4) (c : Fin 3) (x y z : S16x4096x4x1.Idx → α) (h : Shape.Concatenates [S16x4096x4x1, S16x4096x4x1, S16x4096x4x1] S16x4096x4x3 3) :
    concatenate S16x4096x4x3 3 [⟨S16x4096x4x1, x⟩, ⟨S16x4096x4x1, y⟩, ⟨S16x4096x4x1, z⟩] h (ix4 b r i c) = ![x, y, z] c (ix4 b r i 0) := by
  refine (concatenate_ofFn_unit_apply (s₁ := S16x4096x4x1) 3 ![x, y, z] h rfl rfl _ c rfl _ fun a ha => ?_)
  fin_cases a <;> first | rfl | exact absurd rfl ha

theorem concat1 (c : Fin 3) (x y z : S16x4096x1.Idx → α) (h : Shape.Concatenates [S16x4096x1, S16x4096x1, S16x4096x1] S16x4096x3 2) :
    concatenate S16x4096x3 2 [⟨S16x4096x1, x⟩, ⟨S16x4096x1, y⟩, ⟨S16x4096x1, z⟩] h (ix3 b r c) = ![x, y, z] c (ix3 b r 0) := by
  refine (concatenate_ofFn_unit_apply (s₁ := S16x4096x1) 2 ![x, y, z] h rfl rfl _ c rfl _ fun a ha => ?_)
  fin_cases a <;> first | rfl | exact absurd rfl ha

end Cert.ReferenceIdeal.Read

end
-- ==== Proof.Ref.lean ====
module

public import proofs.«01_k».proof.Proof.RefRead

/-!
# The reference at one residue

The reference's arrays as functions of the three arguments, and each read at a residue of type `a` as the function of
`Spec` of that residue's row.
-/

@[expose] public section

set_option maxRecDepth 8192

noncomputable section

namespace Cert.ReferenceIdeal.Ref

open Idealize.ShloMosaic Idealize.ShloMosaic.TcCoe
open Idealize.ShloMosaic.ValueIdx Cert.ReferenceIdeal Cert.ReferenceIdeal.Gen Cert.ReferenceIdeal.Read

section Arrays
variable {F : FTy → Type} [FloatOps F]

/-- The type's row of a table, its index wrapped if negative. -/
def rows (S : IVec S16x4096 32) : IVec S16x4096x1 32 :=
  broadcastInDim S16x4096x1 ![0, 1] bcast_S16x4096_S16x4096x1_0_1
    (select (cmpi .slt S (broadcastInDim S16x4096 ![] bcast_S_S16x4096 (constantI S_ 32 0#32)))
      (addi S (broadcastInDim S16x4096 ![] bcast_S_S16x4096 (constantI S_ 32 20#32))) S)

/-- The atoms the indices name, four to a residue or three. -/
def atoms4 (X : FVec F S16x4096x14x3 .f32) (v : IVec S16x4096x4x1 32) : FVec F S16x4096x4x3 .f32 :=
  Host.gather gather_S16x4096x14x3_S16x4096x4x1_S16x4096x4x3_3_2_01_01_2_3_1113 X
    (select (cmpi .slt v (broadcastInDim S16x4096x4x1 ![] bcast_S_S16x4096x4x1 (constantI S_ 32 0#32)))
      (addi v (broadcastInDim S16x4096x4x1 ![] bcast_S_S16x4096x4x1 (constantI S_ 32 14#32))) v)

def atoms3 (X : FVec F S16x4096x14x3 .f32) (v : IVec S16x4096x3x1 32) : FVec F S16x4096x3x3 .f32 :=
  Host.gather gather_S16x4096x14x3_S16x4096x3x1_S16x4096x3x3_3_2_01_01_2_3_1113 X
    (select (cmpi .slt v (broadcastInDim S16x4096x3x1 ![] bcast_S_S16x4096x3x1 (constantI S_ 32 0#32)))
      (addi v (broadcastInDim S16x4096x3x1 ![] bcast_S_S16x4096x3x1 (constantI S_ 32 14#32))) v)

/-- Products, lengths and cross products along the last axis, over the four torsions or over the residues. -/
def dot4 (u v : FVec F S16x4096x4x3 .f32) : FVec F S16x4096x4 .f32 :=
  Host.reduceAdd (mulf u v) (constant S_ .f32 0x00000000#32) reducesTo_S16x4096x4x3_S16x4096x4_d3 h_S_

def normed4 (v : FVec F S16x4096x4x3 .f32) : FVec F S16x4096x4x3 .f32 :=
  Host.divf v (broadcastInDim S16x4096x4x3 ![0, 1, 2, 3] bcast_S16x4096x4x1_S16x4096x4x3_0_1_2_3
    (Host.sqrt (addf (broadcastInDim S16x4096x4x1 ![0, 1, 2] bcast_S16x4096x4_S16x4096x4x1_0_1_2 (dot4 v v))
      (broadcastInDim S16x4096x4x1 ![] bcast_S_S16x4096x4x1 (constant S_ .f32 0x358637BD#32)))))

def coord4 (v : FVec F S16x4096x4x3 .f32) (t : Fin 3) : FVec F S16x4096x4x1 .f32 :=
  extractStridedSlice S16x4096x4x1 ![0, 0, 0, t.val] v (by revert t; decide)

def cross4 (u v : FVec F S16x4096x4x3 .f32) : FVec F S16x4096x4x3 .f32 :=
  concatenate S16x4096x4x3 3
    [⟨S16x4096x4x1, subf (mulf (coord4 u 1) (coord4 v 2)) (mulf (coord4 u 2) (coord4 v 1))⟩,
      ⟨S16x4096x4x1, subf (mulf (coord4 u 2) (coord4 v 0)) (mulf (coord4 u 0) (coord4 v 2))⟩,
      ⟨S16x4096x4x1, subf (mulf (coord4 u 0) (coord4 v 1)) (mulf (coord4 u 1) (coord4 v 0))⟩]
    concatenates_S16x4096x4x1_S16x4096x4x1_S16x4096x4x1_S16x4096x4x3_d3

def dot1 (u v : FVec F S16x4096x3 .f32) : FVec F S16x4096 .f32 :=
  Host.reduceAdd (mulf u v) (constant S_ .f32 0x00000000#32) reducesTo_S16x4096x3_S16x4096_d2 h_S_

def normed1 (v : FVec F S16x4096x3 .f32) : FVec F S16x4096x3 .f32 :=
  Host.divf v (broadcastInDim S16x4096x3 ![0, 1, 2] bcast_S16x4096x1_S16x4096x3_0_1_2
    (Host.sqrt (addf (broadcastInDim S16x4096x1 ![0, 1] bcast_S16x4096_S16x4096x1_0_1 (dot1 v v))
      (broadcastInDim S16x4096x1 ![] bcast_S_S16x4096x1 (constant S_ .f32 0x358637BD#32)))))

def coord1 (v : FVec F S16x4096x3 .f32) (t : Fin 3) : FVec F S16x4096x1 .f32 :=
  extractStridedSlice S16x4096x1 ![0, 0, t.val] v (by revert t; decide)

def cross1 (u v : FVec F S16x4096x3 .f32) : FVec F S16x4096x3 .f32 :=
  concatenate S16x4096x3 2
    [⟨S16x4096x1, subf (mulf (coord1 u 1) (coord1 v 2)) (mulf (coord1 u 2) (coord1 v 1))⟩,
      ⟨S16x4096x1, subf (mulf (coord1 u 2) (coord1 v 0)) (mulf (coord1 u 0) (coord1 v 2))⟩,
      ⟨S16x4096x1, subf (mulf (coord1 u 0) (coord1 v 1)) (mulf (coord1 u 1) (coord1 v 0))⟩]
    concatenates_S16x4096x1_S16x4096x1_S16x4096x1_S16x4096x3_d2

/-- A count from a table, zero where the chain entry is not positive. -/
def counts (tab : IVec S20 32) (C S : IVec S16x4096 32) : FVec F S16x4096x1 .f32 :=
  broadcastInDim S16x4096x1 ![0, 1] bcast_S16x4096_S16x4096x1_0_1
    (mulf (sitofp .f32 (Host.gather gather_S20_S16x4096x1_S16x4096_n_0_n_n_0_2_1 tab (rows S)))
      (uitofp .f32 (cmpi .sgt C (broadcastInDim S16x4096 ![] bcast_S_S16x4096 (constantI S_ 32 0#32)))))

/-- The atoms named `t` of the four torsions. -/
def named (X : FVec F S16x4096x14x3 .f32) (S : IVec S16x4096 32) (t : Fin 4) : FVec F S16x4096x4x3 .f32 :=
  atoms4 X (broadcastInDim S16x4096x4x1 ![0, 1, 2] bcast_S16x4096x4_S16x4096x4x1_0_1_2
    (shapeCast _ (extractStridedSlice S16x4096x4x1 ![0, 0, 0, t.val]
      (Host.gather gather_S20x4x4_S16x4096x1_S16x4096x4x4_23_0_n_n_0_2_144 (fun i => lit0 (S20x4x4.rowMajor i)) (rows S))
      (by revert t; decide)) shapeCasts_S16x4096x4x1_S16x4096x4))

def bond4 (X : FVec F S16x4096x14x3 .f32) (S : IVec S16x4096 32) (t t' : Fin 4) : FVec F S16x4096x4x3 .f32 :=
  normed4 (subf (named X S t') (named X S t))

/-- The torsions, zero past the type's count. -/
def chis (X : FVec F S16x4096x14x3 .f32) (C S : IVec S16x4096 32) : FVec F S16x4096x4 .f32 :=
  mulf (Host.atan2
      (dot4 (bond4 X S 1 2) (cross4 (normed4 (cross4 (bond4 X S 0 1) (bond4 X S 1 2)))
        (normed4 (cross4 (bond4 X S 1 2) (bond4 X S 2 3)))))
      (dot4 (normed4 (cross4 (bond4 X S 0 1) (bond4 X S 1 2))) (normed4 (cross4 (bond4 X S 1 2) (bond4 X S 2 3)))))
    (uitofp .f32 (cmpf (F := F) .olt
      (broadcastInDim S16x4096x4 ![0, 1, 2] bcast_S1x1x4_S16x4096x4_0_1_2
        (sitofp (F := F) .f32 (broadcastInDim S1x1x4 ![2] bcast_S4_S1x1x4_2 (iotaInDim S4 32 0))))
      (broadcastInDim S16x4096x4 ![0, 1, 2] bcast_S16x4096x1_S16x4096x4_0_1_2 (counts (fun i => lit1 (S20.rowMajor i)) C S))))

/-- A table of one value to a side chain atom, at the residues' types. -/
def table (T : FVec F S20x10 .f32) (S : IVec S16x4096 32) : FVec F S16x4096x10 .f32 :=
  Host.gather gather_S20x10_S16x4096x1_S16x4096x10_2_0_n_n_0_2_110 T (rows S)

/-- A column of four, spread over the side chain atoms. -/
def spread {α : Type} (v : S16x4096x4.Idx → α) (k : Fin 4) : S16x4096x10.Idx → α :=
  broadcastInDim S16x4096x10 ![0, 1, 2] bcast_S16x4096x1_S16x4096x10_0_1_2
    (broadcastInDim S16x4096x1 ![0, 1] bcast_S16x4096_S16x4096x1_0_1
      (shapeCast _ (extractStridedSlice S16x4096x1 ![0, 0, k.val] v (by revert k; decide)) shapeCasts_S16x4096x1_S16x4096))

/-- The atoms torsion `k` turns get it. -/
def turnBy (S : IVec S16x4096 32) (chi : FVec F S16x4096x4 .f32) (k : Fin 4) (d : FVec F S16x4096x10 .f32) :
    FVec F S16x4096x10 .f32 :=
  select (cmpi .eq
      (spread (Host.gather gather_S20x4_S16x4096x1_S16x4096x4_2_0_n_n_0_2_14 (fun i => lit5 (S20x4.rowMajor i)) (rows S)) k)
      (broadcastInDim S16x4096x10 ![0, 1, 2] bcast_S1x1x10_S16x4096x10_0_1_2
        (broadcastInDim S1x1x10 ![2] bcast_S10_S1x1x10_2 (iotaInDim S10 32 0))))
    (spread chi k) d

def dihedrals (S : IVec S16x4096 32) (chi : FVec F S16x4096x4 .f32) : FVec F S16x4096x10 .f32 :=
  turnBy S chi 3 (turnBy S chi 2 (turnBy S chi 1 (turnBy S chi 0
    (table (fun i => FloatOps.ofBits .f32 (lit4 (S20x10.rowMajor i))) S))))

/-- One side chain atom's column of a table. -/
def column (v : FVec F S16x4096x10 .f32) (i : Fin 10) : FVec F S16x4096 .f32 :=
  shapeCast _ (extractStridedSlice S16x4096x1 ![0, 0, i.val] v (by revert i; decide)) shapeCasts_S16x4096x1_S16x4096

def lift (v : FVec F S16x4096 .f32) : FVec F S16x4096x1 .f32 :=
  broadcastInDim S16x4096x1 ![0, 1] bcast_S16x4096_S16x4096x1_0_1 v

def lift3 (v : FVec F S16x4096x1 .f32) : FVec F S16x4096x3 .f32 :=
  broadcastInDim S16x4096x3 ![0, 1, 2] bcast_S16x4096x1_S16x4096x3_0_1_2 v

/-- The position past three parents. -/
def place (p1 p2 p3 : FVec F S16x4096x3 .f32) (len ang dih : FVec F S16x4096 .f32) : FVec F S16x4096x3 .f32 :=
  addf p3 (mulf (lift3 (lift len)) (addf (addf
    (mulf (lift3 (Host.negf (lift (Host.cos ang)))) (normed1 (subf p3 p2)))
    (mulf (lift3 (mulf (lift (Host.sin ang)) (lift (Host.cos dih))))
      (cross1 (normed1 (cross1 (subf p1 p2) (normed1 (subf p3 p2)))) (normed1 (subf p3 p2)))))
    (mulf (lift3 (mulf (lift (Host.sin ang)) (lift (Host.sin dih)))) (normed1 (cross1 (subf p1 p2) (normed1 (subf p3 p2)))))))

/-- The parents of side chain atom `i`. -/
def parents (X : FVec F S16x4096x14x3 .f32) (S : IVec S16x4096 32) (i : Fin 10) (t : Fin 3) : FVec F S16x4096x3 .f32 :=
  shapeCast _ (extractStridedSlice S16x4096x1x3 ![0, 0, t.val, 0]
    (atoms3 X (broadcastInDim S16x4096x3x1 ![0, 1, 2] bcast_S16x4096x3_S16x4096x3x1_0_1_2
      (shapeCast _ (extractStridedSlice S16x4096x1x3 ![0, 0, i.val, 0]
        (Host.gather gather_S20x10x3_S16x4096x1_S16x4096x10x3_23_0_n_n_0_2_1103 (fun i => lit6 (S20x10x3.rowMajor i)) (rows S))
        (by revert i; decide)) shapeCasts_S16x4096x1x3_S16x4096x3)))
    (by revert t; decide)) shapeCasts_S16x4096x1x3_S16x4096x3

/-- The atoms' numbers. -/
def slot : IVec S1x1x14x1 32 := broadcastInDim S1x1x14x1 ![2] bcast_S14_S1x1x14x1_2 (iotaInDim S14 32 0)

def start (X : FVec F S16x4096x14x3 .f32) : FVec F S16x4096x14x3 .f32 :=
  select (broadcastInDim S16x4096x14x3 ![0, 1, 2, 3] bcast_S1x1x14x1_S16x4096x14x3_0_1_2_3
      (cmpi .slt slot (broadcastInDim S1x1x14x1 ![] bcast_S_S1x1x14x1 (constantI S_ 32 4#32))))
    X (broadcastInDim S16x4096x14x3 ![] bcast_S_S16x4096x14x3 (constant S_ .f32 0x00000000#32))

/-- Side chain atom `i` put in its slot. -/
def step (S : IVec S16x4096 32) (dih : FVec F S16x4096x10 .f32) (i : Fin 10) (X : FVec F S16x4096x14x3 .f32) :
    FVec F S16x4096x14x3 .f32 :=
  select (broadcastInDim S16x4096x14x3 ![0, 1, 2, 3] bcast_S1x1x14x1_S16x4096x14x3_0_1_2_3
      (cmpi .eq slot (broadcastInDim S1x1x14x1 ![] bcast_S_S1x1x14x1 (constantI S_ 32 (BitVec.ofNat 32 (4 + i.val))))))
    (broadcastInDim S16x4096x14x3 ![0, 1, 2, 3] bcast_S16x4096x1x3_S16x4096x14x3_0_1_2_3
      (broadcastInDim S16x4096x1x3 ![0, 1, 3] bcast_S16x4096x3_S16x4096x1x3_0_1_3
        (place (parents X S i 0) (parents X S i 1) (parents X S i 2)
          (column (table (fun i => FloatOps.ofBits .f32 (lit2 (S20x10.rowMajor i))) S) i)
          (column (table (fun i => FloatOps.ofBits .f32 (lit3 (S20x10.rowMajor i))) S) i) (column dih i))))
    X

/-- The atoms after the first `n` of the side chain are placed. -/
def state (X : FVec F S16x4096x14x3 .f32) (S : IVec S16x4096 32) (dih : FVec F S16x4096x10 .f32) :
    (n : ℕ) → n ≤ 10 → FVec F S16x4096x14x3 .f32
  | 0, _ => start X
  | n + 1, h => step S dih ⟨n, h⟩ (state X S dih n (Nat.le_of_succ_le h))

/-- The reference's result. -/
def result (X : FVec F S16x4096x14x3 .f32) (C S : IVec S16x4096 32) : FVec F S16x4096x14x3 .f32 :=
  mulf (broadcastInDim S16x4096x14x3 ![0, 1, 2, 3] bcast_S16x4096x14x1_S16x4096x14x3_0_1_2_3
      (broadcastInDim S16x4096x14x1 ![0, 1, 2] bcast_S16x4096x14_S16x4096x14x1_0_1_2
        (uitofp .f32 (cmpf (F := F) .olt
          (broadcastInDim S16x4096x14 ![0, 1, 2] bcast_S1x1x14_S16x4096x14_0_1_2
            (sitofp (F := F) .f32 (broadcastInDim S1x1x14 ![2] bcast_S14_S1x1x14_2 (iotaInDim S14 32 0))))
          (broadcastInDim S16x4096x14 ![0, 1, 2] bcast_S16x4096x1_S16x4096x14_0_1_2
            (counts (fun i => lit7 (S20.rowMajor i)) C S))))))
    (state X S (dihedrals S (chis X C S)) 10 le_rfl)

end Arrays

end Cert.ReferenceIdeal.Ref

end
-- ==== Proof.RefRun.lean ====
module

public import proofs.«01_k».proof.Proof.Ref
public import proofs.«01_k».proof.Proof.Gen.ReferenceIdeal.Run
public import Idealize.ShloMosaic.Lib.Tactic

/-!
# The reference's run

The run leaves `Ref.result` of the arguments.
-/

@[expose] public section

set_option maxRecDepth 16384

noncomputable section

namespace Cert.ReferenceIdeal.Ref

open Idealize.ShloMosaic Idealize.ShloMosaic.TcCoe Idealize.ShloMosaic.StableHlo Idealize.SL.Sem
open Idealize.ShloMosaic.ValueIdx Cert.ReferenceIdeal Cert.ReferenceIdeal.Gen Cert.ReferenceIdeal.Value

variable {F : FTy → Type} [FloatOps F] (V0 : Valuation τ sig (Elt F))

/-- The three arguments. -/
abbrev argX : FVec F S16x4096x14x3 .f32 := V0 (Proc.devRef .tc main_arg0)
abbrev argC : IVec S16x4096 32 := V0 (Proc.devRef .tc main_arg1)
abbrev argS : IVec S16x4096 32 := V0 (Proc.devRef .tc main_arg2)

theorem res_torsions : res_main_v139 V0 = chis (argX V0) (argC V0) (argS V0) := by sl_kernel_rfl

theorem res_dihedrals : res_main_v215 V0 = dihedrals (argS V0) (chis (argX V0) (argC V0) (argS V0)) := by
  rw [← res_torsions]
  sl_kernel_rfl

theorem res_start : res_main_v227 V0 = start (argX V0) := by sl_kernel_rfl

theorem res_step0 : res_main_v322 V0 = step (argS V0) (res_main_v215 V0) 0 (res_main_v227 V0) := by sl_kernel_rfl

theorem res_step1 : res_main_v417 V0 = step (argS V0) (res_main_v215 V0) 1 (res_main_v322 V0) := by sl_kernel_rfl

theorem res_step2 : res_main_v512 V0 = step (argS V0) (res_main_v215 V0) 2 (res_main_v417 V0) := by sl_kernel_rfl

theorem res_step3 : res_main_v607 V0 = step (argS V0) (res_main_v215 V0) 3 (res_main_v512 V0) := by sl_kernel_rfl

theorem res_step4 : res_main_v702 V0 = step (argS V0) (res_main_v215 V0) 4 (res_main_v607 V0) := by sl_kernel_rfl

theorem res_step5 : res_main_v797 V0 = step (argS V0) (res_main_v215 V0) 5 (res_main_v702 V0) := by sl_kernel_rfl

theorem res_step6 : res_main_v892 V0 = step (argS V0) (res_main_v215 V0) 6 (res_main_v797 V0) := by sl_kernel_rfl

theorem res_step7 : res_main_v987 V0 = step (argS V0) (res_main_v215 V0) 7 (res_main_v892 V0) := by sl_kernel_rfl

theorem res_step8 : res_main_v1082 V0 = step (argS V0) (res_main_v215 V0) 8 (res_main_v987 V0) := by sl_kernel_rfl

/-- The nine named steps from the start. -/
theorem res_state : res_main_v1082 V0 =
    state (argX V0) (argS V0) (dihedrals (argS V0) (chis (argX V0) (argC V0) (argS V0))) 9 (by decide) := by
  rw [res_step8, res_step7, res_step6, res_step5, res_step4, res_step3, res_step2, res_step1, res_step0, res_start,
    res_dihedrals]
  rfl

/-- The run ends with the result at `result` of the arguments, which are unchanged. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1200)
          = result (argX (launchContents m c)) (argC (launchContents m c)) (argS (launchContents m c))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  refine (θ_run defs _ _).mono (fun r h c => ⟨(h c).1.trans ?_, (h c).2⟩) (run m ρ)
  rw [result, state, ← res_state, ← res_dihedrals]
  sl_kernel_rfl

end Cert.ReferenceIdeal.Ref

end
-- ==== Proof.Body.lean ====
module

public import proofs.«01_k».proof.Proof.Gen.KernelIdeal.Frame
public import proofs.«01_k».proof.Proof.Tables
public import Idealize.ShloMosaic.Lib.ValueLayout
public import Idealize.ShloMosaic.Lib.WholeRead
public import Idealize.ShloMosaic.Lib.WritesUnit

/-!
# The kernel's body as a function of its blocks

A residue block is a [32, 128] vector. The body picks by type from the columns of the position block, computes the four
torsion angles, places the ten side chain atoms one after the other and masks the atoms. Each of these is stated here
once, and the values that the body's run finds are identified with them.
-/

@[expose] public section

set_option maxRecDepth 65536

noncomputable section

namespace Cert.KernelIdeal.Body

open Idealize.ShloMosaic Idealize.ShloMosaic.TcCoe Idealize.ShloMosaic.Tactic
open Idealize.ShloMosaic.ValueIdx Cert.KernelIdeal Cert.KernelIdeal.Gen Cert.Res

variable {F : FTy → Type} [FloatOps F]

/-- A vector with one float for each residue of a block. -/
abbrev Col (F : FTy → Type) := FVec F S32x128 .f32

/-- The same float at every residue. -/
abbrev flat (b : BitVec 32) : Col F := broadcast S32x128 (Scalar.ofBits .f32 b)

/-- The residues of type `n`. -/
abbrev isType (s : IVec S32x128 32) (n : ℕ) : IVec S32x128 1 :=
  cmpi .eq s (broadcast S32x128 (BitVec.ofNat 32 n))

/-- The first of the types `n`, …, `n + k` that is the residue's picks; the last one otherwise. -/
def pickFrom (s : IVec S32x128 32) (f : Fin 20 → Col F) : ℕ → ℕ → Col F
  | 0, n => f (Fin.ofNat 20 n)
  | k + 1, n => select (isType s n) (f (Fin.ofNat 20 n)) (pickFrom s f k (n + 1))

/-- The value for the residue's type. -/
def pick (s : IVec S32x128 32) (f : Fin 20 → Col F) : Col F := pickFrom s f 19 0

/-- The residues whose type is listed; nothing is selected for an empty list. -/
def choose (s : IVec S32x128 32) (l : List (Fin 20)) (x y : Col F) : Col F :=
  match l with
  | [] => y
  | a :: l => select (l.foldl (fun acc b => ori acc (isType s b.val)) (isType s a.val)) x y

/-- Difference of two vectors of three components. -/
def sub3 (p q : Fin 3 → Col F) : Fin 3 → Col F := fun c => subf (p c) (q c)

/-- A vector over its length, `1e-6` added to the sum of squares. -/
def normed (v : Fin 3 → Col F) : Fin 3 → Col F := fun c =>
  divf (v c) (sqrt (addf (addf (addf (mulf (v 0) (v 0)) (mulf (v 1) (v 1))) (mulf (v 2) (v 2))) (flat 0x358637BD#32)))

/-- The cross product. -/
def cross (a b : Fin 3 → Col F) : Fin 3 → Col F :=
  ![subf (mulf (a 1) (b 2)) (mulf (a 2) (b 1)), subf (mulf (a 2) (b 0)) (mulf (a 0) (b 2)),
    subf (mulf (a 0) (b 1)) (mulf (a 1) (b 0))]

/-- The dot product, a zero written as the constant. -/
def dot (a b : Fin 3 → Col F) : Col F :=
  select (cmpf .oeq (addf (addf (mulf (a 0) (b 0)) (mulf (a 1) (b 1))) (mulf (a 2) (b 2))) (flat 0#32)) (flat 0#32)
    (addf (addf (mulf (a 0) (b 0)) (mulf (a 1) (b 1))) (mulf (a 2) (b 2)))

/-- The torsion angle from the three unit bond vectors. -/
def torsion (u1 u2 u3 : Fin 3 → Col F) : Col F :=
  atan2 (dot u2 (cross (normed (cross u1 u2)) (normed (cross u2 u3))))
    (dot (normed (cross u1 u2)) (normed (cross u2 u3)))

/-- One where `k` is below the count, zero elsewhere. -/
def below (k : ℕ) (n : Col F) : Col F := select (cmpf .olt (flat (natBits k)) n) (flat 0x3F800000#32) (flat 0#32)

/-- A count by type, zero at a residue whose chain entry is not positive. -/
def count (s : IVec S32x128 32) (ch : IVec S32x128 32) (n : Fin 20 → BitVec 32) : Col F :=
  mulf (pick s fun a => flat (natBits (n a).toNat))
    (select (cmpi .sgt ch (broadcast S32x128 0#32)) (flat 0x3F800000#32) (flat 0#32))

/-- The `k`-th torsion angle of a residue, zero where its type has fewer. -/
def chi (s : IVec S32x128 32) (n : Col F) (x : Fin 14 → Fin 3 → Col F) (k : Fin 4) : Col F :=
  mulf (torsion
      (normed (sub3 (fun c => pick s fun a => x (chiAtom a k 1) c) (fun c => pick s fun a => x (chiAtom a k 0) c)))
      (normed (sub3 (fun c => pick s fun a => x (chiAtom a k 2) c) (fun c => pick s fun a => x (chiAtom a k 1) c)))
      (normed (sub3 (fun c => pick s fun a => x (chiAtom a k 3) c) (fun c => pick s fun a => x (chiAtom a k 2) c))))
    (below k.val n)

/-- The cosine or sine of the dihedral angle of side chain atom `i`: the table's, or that of the torsion which turns it. -/
def turn (s : IVec S32x128 32) (i : Fin 10) (tab : Fin 20 → Col F) (t : Fin 4 → Col F) : Col F :=
  choose s (turners i 3) (t 3) (choose s (turners i 2) (t 2) (choose s (turners i 1) (t 1)
    (choose s (turners i 0) (t 0) (pick s tab))))

/-- The position past three parents, from the bond length and the cosines and sines of the two angles. -/
def place (p1 p2 p3 : Fin 3 → Col F) (len cA sA cD sD : Col F) (c : Fin 3) : Col F :=
  addf (flat 0#32) (addf (p3 c) (mulf len (addf (addf
    (mulf (subf (flat 0#32) cA) (normed (sub3 p3 p2) c))
    (mulf (mulf sA cD) (cross (normed (cross (sub3 p1 p2) (normed (sub3 p3 p2)))) (normed (sub3 p3 p2)) c)))
    (mulf (mulf sA sD) (normed (cross (sub3 p1 p2) (normed (sub3 p3 p2))) c)))))

/-- The `i`-th side chain atom's position from the atoms so far. -/
def atom (s : IVec S32x128 32) (q : Fin 14 → Fin 3 → Col F) (cA sA cD sD : Fin 20 → Fin 10 → Col F)
    (cosT sinT : Fin 4 → Col F) (i : Fin 10) : Fin 3 → Col F :=
  place (fun c => pick s fun a => q (parent a i 0) c) (fun c => pick s fun a => q (parent a i 1) c)
    (fun c => pick s fun a => q (parent a i 2) c) (pick s fun a => flat (bond a i))
    (pick s fun a => cA a i) (pick s fun a => sA a i) (turn s i (fun a => cD a i) cosT) (turn s i (fun a => sD a i) sinT)

/-! ## The run's values -/

/-- Every one-slab rectangle lies in the position block, every single entry in a table. -/
theorem inb_slab (n : Fin 42) : ∀ a, (![n.val, 0, 0] : Fin 3 → ℕ) a + S1x32x128.size a ≤ S42x32x128.size a := by
  intro a; fin_cases a
  · show n.val + 1 ≤ 42; omega
  · show 0 + 32 ≤ 32; omega
  · show 0 + 128 ≤ 128; omega

theorem inb_entry (a : Fin 20) (i : Fin 10) : ∀ d, (![a.val, i.val] : Fin 2 → ℕ) d + S1x1.size d ≤ S20x10.size d := by
  intro d; fin_cases d
  · show a.val + 1 ≤ 20; omega
  · show i.val + 1 ≤ 10; omega

/-- Column `c` of atom slot `p` of a position block, as the body loads it. -/
def load (M : Memref sig .tc .vmem S42x32x128 .f32) (h : M.IsWhole) (x : Vec F S42x32x128 .f32) (p : Fin 14) (c : Fin 3) :
    Col F :=
  shapeCast S32x128 (View.readAt (Elt F) M.view (Rect.unit (s := S42x32x128)
    ![3 * p.val + c.val, 0, 0] S1x32x128.size (inb_slab ⟨3 * p.val + c.val, by omega⟩)).toLoadRect (h.unread x))
    shapeCasts_S1x32x128_S32x128

/-- A block of words, as the body loads it. -/
def loadWords (M : Memref sig .tc .vmem S32x128 .i32) (h : M.IsWhole) (x : Vec F S32x128 .i32) : IVec S32x128 32 :=
  shapeCast S32x128 (View.readAt (Elt F) M.view (Rect.unit (s := S32x128) ![0, 0] S32x128.size
    inb_S32x128_S32x128_0_0).toLoadRect (h.unread x)) shapeCasts_S32x128_S32x128

/-- An entry of a table, as the body loads it, at every residue. -/
def entry (M : Memref sig .tc .smem S20x10 .f32) (h : M.IsWhole) (x : Vec F S20x10 .f32) (a : Fin 20) (i : Fin 10) : Col F :=
  broadcast S32x128 (View.readAt (Elt F) M.view (Rect.unit (s := S20x10) ![a.val, i.val] S1x1.size
    (inb_entry a i)).toLoadRect (h.unread x) (Shape.Idx.first numel1_S1x1.symm.le))

theorem load_apply (M : Memref sig .tc .vmem S42x32x128 .f32) (h : M.IsWhole) (x : Vec F S42x32x128 .f32) (p : Fin 14)
    (c : Fin 3) (i : Fin 32) (j : Fin 128) :
    load M h x p c (ix2 i j) = x (ix3 (⟨3 * p.val + c.val, by omega⟩ : Fin 42) i j) := by
  refine (shapeCast_1ab_ab_apply _ _ i j).trans ((Memref.IsWhole.readAt_unread h x _ _).trans (congrArg x ?_))
  funext a; fin_cases a
  · exact Fin.ext (by show 3 * p.val + c.val + 1 * 0 = _; rfl)
  · exact Fin.ext (by show 0 + 1 * i.val = i.val; omega)
  · exact Fin.ext (by show 0 + 1 * j.val = j.val; omega)

theorem loadWords_apply (M : Memref sig .tc .vmem S32x128 .i32) (h : M.IsWhole) (x : Vec F S32x128 .i32) (i : Fin 32)
    (j : Fin 128) : loadWords M h x (ix2 i j) = x (ix2 i j) := by
  refine (shapeCast_apply _ _ (ix2 i j) (ix2 i j) rfl).trans ((Memref.IsWhole.readAt_unread h x _ _).trans (congrArg x ?_))
  funext a; fin_cases a
  · exact Fin.ext (by show 0 + 1 * i.val = i.val; omega)
  · exact Fin.ext (by show 0 + 1 * j.val = j.val; omega)

theorem entry_apply (M : Memref sig .tc .smem S20x10 .f32) (h : M.IsWhole) (x : Vec F S20x10 .f32) (a : Fin 20) (i : Fin 10)
    (y : S32x128.Idx) : entry M h x a i y = x (ix2 a i) := by
  refine (Memref.IsWhole.readAt_unread h x _ _).trans (congrArg x ?_)
  funext d; fin_cases d
  · exact Fin.ext (by show a.val + 1 * 0 = a.val; omega)
  · exact Fin.ext (by show i.val + 1 * 0 = i.val; omega)

end Cert.KernelIdeal.Body

end
-- ==== Proof.BodyRun.lean ====
module

public import proofs.«01_k».proof.Proof.Body

/-!
# The values that the kernel's run finds

The run of the body names every value it computes. Here the torsion angles, the placed atoms and the stored slabs among
them are the functions of the blocks that `Body` states.
-/

@[expose] public section

set_option maxRecDepth 65536

noncomputable section

namespace Cert.KernelIdeal.Body

open Idealize.ShloMosaic Idealize.ShloMosaic.TcCoe Idealize.ShloMosaic.Tactic
open Idealize.ShloMosaic.ValueIdx Cert.KernelIdeal Cert.KernelIdeal.Gen Cert.Res

variable {F : FTy → Type} [FloatOps F]

variable (c : Dev nD) (arg1 : Memref sig .tc .vmem S42x32x128 .f32) (harg1 : arg1.IsWhole)
  (arg2 : Memref sig .tc .vmem S32x128 .i32) (harg2 : arg2.IsWhole)
  (arg3 : Memref sig .tc .vmem S32x128 .i32) (harg3 : arg3.IsWhole)
  (arg4 : Memref sig .tc .smem S20x10 .f32) (harg4 : arg4.IsWhole)
  (arg5 : Memref sig .tc .smem S20x10 .f32) (harg5 : arg5.IsWhole)
  (arg6 : Memref sig .tc .smem S20x10 .f32) (harg6 : arg6.IsWhole)
  (arg7 : Memref sig .tc .smem S20x10 .f32) (harg7 : arg7.IsWhole)
  (x0 : Vec F S42x32x128 .f32) (x1 x2 : Vec F S32x128 .i32) (x3 x4 x5 x6 : Vec F S20x10 .f32)

/-- The torsion count of the run. -/
theorem count_chi : kernelRun0_A.sl.r_17 c arg2 harg2 arg3 harg3 x1 x2 =
    count (loadWords arg2 harg2 x1) (loadWords arg3 harg3 x2) numChi := by sl_kernel_rfl

theorem count_atoms : kernelRun0_A.sl.r_1130 c arg2 harg2 arg3 harg3 x1 x2 =
    count (loadWords arg2 harg2 x1) (loadWords arg3 harg3 x2) numAtoms := by sl_kernel_rfl

/-- The cosines and sines of the run's torsion angles. -/
def cosRun : Fin 4 → Col F :=
  ![kernelRun0_A.sl.r_37 c arg1 harg1 arg2 harg2 arg3 harg3 x0 x1 x2,
    kernelRun0_A.sl.r_55 c arg1 harg1 arg2 harg2 arg3 harg3 x0 x1 x2,
    kernelRun0_A.sl.r_75 c arg1 harg1 arg2 harg2 arg3 harg3 x0 x1 x2,
    kernelRun0_A.sl.r_96 c arg1 harg1 arg2 harg2 arg3 harg3 x0 x1 x2]
@[inherit_doc cosRun] def sinRun : Fin 4 → Col F :=
  ![kernelRun0_A.sl.r_38 c arg1 harg1 arg2 harg2 arg3 harg3 x0 x1 x2,
    kernelRun0_A.sl.r_56 c arg1 harg1 arg2 harg2 arg3 harg3 x0 x1 x2,
    kernelRun0_A.sl.r_76 c arg1 harg1 arg2 harg2 arg3 harg3 x0 x1 x2,
    kernelRun0_A.sl.r_97 c arg1 harg1 arg2 harg2 arg3 harg3 x0 x1 x2]

/-- The run's atom positions by slot: four given ones, then the ten placed ones. -/
def slots : Fin 14 → Fin 3 → Col F :=
  ![![kernelRun0_A.sl.v1 c arg1 harg1 x0, kernelRun0_A.sl.v3 c arg1 harg1 x0, kernelRun0_A.sl.v5 c arg1 harg1 x0],
    ![kernelRun0_A.sl.v7 c arg1 harg1 x0, kernelRun0_A.sl.v9 c arg1 harg1 x0, kernelRun0_A.sl.v11 c arg1 harg1 x0],
    ![kernelRun0_A.sl.v13 c arg1 harg1 x0, kernelRun0_A.sl.v15 c arg1 harg1 x0, kernelRun0_A.sl.v17 c arg1 harg1 x0],
    ![kernelRun0_A.sl.v19 c arg1 harg1 x0, kernelRun0_A.sl.v21 c arg1 harg1 x0, kernelRun0_A.sl.v23 c arg1 harg1 x0],
    ![kernelRun0_A.sl.r_195 c arg1 harg1 arg2 harg2 arg3 harg3 arg4 harg4 arg5 harg5
      arg6 harg6 arg7 harg7 x0 x1 x2 x3 x4 x5 x6,
      kernelRun0_A.sl.r_196 c arg1 harg1 arg2 harg2 arg3 harg3 arg4 harg4 arg5 harg5
      arg6 harg6 arg7 harg7 x0 x1 x2 x3 x4 x5 x6,
      kernelRun0_A.sl.r_197 c arg1 harg1 arg2 harg2 arg3 harg3 arg4 harg4 arg5 harg5
      arg6 harg6 arg7 harg7 x0 x1 x2 x3 x4 x5 x6],
    ![kernelRun0_A.sl.r_297 c arg1 harg1 arg2 harg2 arg3 harg3 arg4 harg4 arg5 harg5
      arg6 harg6 arg7 harg7 x0 x1 x2 x3 x4 x5 x6,
      kernelRun0_A.sl.r_300 c arg1 harg1 arg2 harg2 arg3 harg3 arg4 harg4 arg5 harg5
      arg6 harg6 arg7 harg7 x0 x1 x2 x3 x4 x5 x6,
      kernelRun0_A.sl.r_301 c arg1 harg1 arg2 harg2 arg3 harg3 arg4 harg4 arg5 harg5
      arg6 harg6 arg7 harg7 x0 x1 x2 x3 x4 x5 x6],
    ![kernelRun0_A.sl.r_400 c arg1 harg1 arg2 harg2 arg3 harg3 arg4 harg4 arg5 harg5
      arg6 harg6 arg7 harg7 x0 x1 x2 x3 x4 x5 x6,
      kernelRun0_A.sl.r_402 c arg1 harg1 arg2 harg2 arg3 harg3 arg4 harg4 arg5 harg5
      arg6 harg6 arg7 harg7 x0 x1 x2 x3 x4 x5 x6,
      kernelRun0_A.sl.r_403 c arg1 harg1 arg2 harg2 arg3 harg3 arg4 harg4 arg5 harg5
      arg6 harg6 arg7 harg7 x0 x1 x2 x3 x4 x5 x6],
    ![kernelRun0_A.sl.r_497 c arg1 harg1 arg2 harg2 arg3 harg3 arg4 harg4 arg5 harg5
      arg6 harg6 arg7 harg7 x0 x1 x2 x3 x4 x5 x6,
      kernelRun0_A.sl.r_498 c arg1 harg1 arg2 harg2 arg3 harg3 arg4 harg4 arg5 harg5
      arg6 harg6 arg7 harg7 x0 x1 x2 x3 x4 x5 x6,
      kernelRun0_A.sl.r_500 c arg1 harg1 arg2 harg2 arg3 harg3 arg4 harg4 arg5 harg5
      arg6 harg6 arg7 harg7 x0 x1 x2 x3 x4 x5 x6],
    ![kernelRun0_A.sl.r_598 c arg1 harg1 arg2 harg2 arg3 harg3 arg4 harg4 arg5 harg5
      arg6 harg6 arg7 harg7 x0 x1 x2 x3 x4 x5 x6,
      kernelRun0_A.sl.r_599 c arg1 harg1 arg2 harg2 arg3 harg3 arg4 harg4 arg5 harg5
      arg6 harg6 arg7 harg7 x0 x1 x2 x3 x4 x5 x6,
      kernelRun0_A.sl.r_601 c arg1 harg1 arg2 harg2 arg3 harg3 arg4 harg4 arg5 harg5
      arg6 harg6 arg7 harg7 x0 x1 x2 x3 x4 x5 x6],
    ![kernelRun0_A.sl.r_700 c arg1 harg1 arg2 harg2 arg3 harg3 arg4 harg4 arg5 harg5
      arg6 harg6 arg7 harg7 x0 x1 x2 x3 x4 x5 x6,
      kernelRun0_A.sl.r_701 c arg1 harg1 arg2 harg2 arg3 harg3 arg4 harg4 arg5 harg5
      arg6 harg6 arg7 harg7 x0 x1 x2 x3 x4 x5 x6,
      kernelRun0_A.sl.r_702 c arg1 harg1 arg2 harg2 arg3 harg3 arg4 harg4 arg5 harg5
      arg6 harg6 arg7 harg7 x0 x1 x2 x3 x4 x5 x6],
    ![kernelRun0_A.sl.r_799 c arg1 harg1 arg2 harg2 arg3 harg3 arg4 harg4 arg5 harg5
      arg6 harg6 arg7 harg7 x0 x1 x2 x3 x4 x5 x6,
      kernelRun0_A.sl.r_800 c arg1 harg1 arg2 harg2 arg3 harg3 arg4 harg4 arg5 harg5
      arg6 harg6 arg7 harg7 x0 x1 x2 x3 x4 x5 x6,
      kernelRun0_A.sl.r_801 c arg1 harg1 arg2 harg2 arg3 harg3 arg4 harg4 arg5 harg5
      arg6 harg6 arg7 harg7 x0 x1 x2 x3 x4 x5 x6],
    ![kernelRun0_A.sl.r_899 c arg1 harg1 arg2 harg2 arg3 harg3 arg4 harg4 arg5 harg5
      arg6 harg6 arg7 harg7 x0 x1 x2 x3 x4 x5 x6,
      kernelRun0_A.sl.r_900 c arg1 harg1 arg2 harg2 arg3 harg3 arg4 harg4 arg5 harg5
      arg6 harg6 arg7 harg7 x0 x1 x2 x3 x4 x5 x6,
      kernelRun0_A.sl.r_901 c arg1 harg1 arg2 harg2 arg3 harg3 arg4 harg4 arg5 harg5
      arg6 harg6 arg7 harg7 x0 x1 x2 x3 x4 x5 x6],
    ![kernelRun0_A.sl.r_1012 c arg1 harg1 arg2 harg2 arg3 harg3 arg4 harg4 arg5 harg5
      arg6 harg6 arg7 harg7 x0 x1 x2 x3 x4 x5 x6,
      kernelRun0_A.sl.r_1013 c arg1 harg1 arg2 harg2 arg3 harg3 arg4 harg4 arg5 harg5
      arg6 harg6 arg7 harg7 x0 x1 x2 x3 x4 x5 x6,
      kernelRun0_A.sl.r_1014 c arg1 harg1 arg2 harg2 arg3 harg3 arg4 harg4 arg5 harg5
      arg6 harg6 arg7 harg7 x0 x1 x2 x3 x4 x5 x6],
    ![kernelRun0_A.sl.r_1126 c arg1 harg1 arg2 harg2 arg3 harg3 arg4 harg4 arg5 harg5
      arg6 harg6 arg7 harg7 x0 x1 x2 x3 x4 x5 x6,
      kernelRun0_A.sl.r_1127 c arg1 harg1 arg2 harg2 arg3 harg3 arg4 harg4 arg5 harg5
      arg6 harg6 arg7 harg7 x0 x1 x2 x3 x4 x5 x6,
      kernelRun0_A.sl.r_1128 c arg1 harg1 arg2 harg2 arg3 harg3 arg4 harg4 arg5 harg5
      arg6 harg6 arg7 harg7 x0 x1 x2 x3 x4 x5 x6]]

theorem cosRun_eq (k : Fin 4) : cosRun c arg1 harg1 arg2 harg2 arg3 harg3 x0 x1 x2 k =
    cos (chi (loadWords arg2 harg2 x1) (kernelRun0_A.sl.r_17 c arg2 harg2 arg3 harg3 x1 x2) (load arg1 harg1 x0) k) := by
  fin_cases k <;> sl_kernel_rfl

theorem sinRun_eq (k : Fin 4) : sinRun c arg1 harg1 arg2 harg2 arg3 harg3 x0 x1 x2 k =
    sin (chi (loadWords arg2 harg2 x1) (kernelRun0_A.sl.r_17 c arg2 harg2 arg3 harg3 x1 x2) (load arg1 harg1 x0) k) := by
  fin_cases k <;> sl_kernel_rfl

/-- The first four slots are the position block's. -/
theorem slots_given (p : Fin 4) (j : Fin 3) :
    slots c arg1 harg1 arg2 harg2 arg3 harg3 arg4 harg4 arg5 harg5 arg6 harg6 arg7 harg7 x0 x1 x2 x3 x4 x5 x6 ⟨p.val, by omega⟩ j = load arg1 harg1 x0 ⟨p.val, by omega⟩ j := by
  fin_cases p <;> fin_cases j <;> sl_kernel_rfl

/-- Each of the others is placed from the slots before it. -/
theorem slots_placed (i : Fin 10) (j : Fin 3) :
    slots c arg1 harg1 arg2 harg2 arg3 harg3 arg4 harg4 arg5 harg5 arg6 harg6 arg7 harg7 x0 x1 x2 x3 x4 x5 x6 ⟨4 + i.val, by omega⟩ j =
      atom (loadWords arg2 harg2 x1) (slots c arg1 harg1 arg2 harg2 arg3 harg3 arg4 harg4 arg5 harg5 arg6 harg6 arg7 harg7 x0 x1 x2 x3 x4 x5 x6)
        (entry arg4 harg4 x3) (entry arg5 harg5 x4) (entry arg6 harg6 x5) (entry arg7 harg7 x6)
        (cosRun c arg1 harg1 arg2 harg2 arg3 harg3 x0 x1 x2) (sinRun c arg1 harg1 arg2 harg2 arg3 harg3 x0 x1 x2) i j := by
  fin_cases i <;> fin_cases j <;> sl_kernel_rfl

/-- The masked coordinate that the body stores in slab `n`. -/
def slab (n : Fin 42) : Col F :=
  mulf (below (n.val / 3) (count (loadWords arg2 harg2 x1) (loadWords arg3 harg3 x2) numAtoms))
    (slots c arg1 harg1 arg2 harg2 arg3 harg3 arg4 harg4 arg5 harg5 arg6 harg6 arg7 harg7 x0 x1 x2 x3 x4 x5 x6
      ⟨n.val / 3, by omega⟩ ⟨n.val % 3, by omega⟩)

/-- The run's stores are the 42 slabs. -/
theorem stores_eq (g : grid0.Coords) (arg8 : Memref sig .tc .vmem S42x32x128 .f32) (harg8 : arg8.IsWhole) :
    (kernelRun0_A c g arg1 harg1 arg2 harg2 arg3 harg3 arg4 harg4 arg5 harg5 arg6 harg6 arg7 harg7 arg8 harg8
      x0 x1 x2 x3 x4 x5 x6).1 =
    View.tilePieces (s := S42x32x128) (e := .f32) S1x32x128.size (fun n : Fin 42 => ![n.val, 0, 0]) inb_slab
      (fun n => shapeCast S1x32x128 (slab c arg1 harg1 arg2 harg2 arg3 harg3 arg4 harg4 arg5 harg5 arg6 harg6 arg7 harg7 x0 x1 x2 x3 x4 x5 x6 n)
        shapeCasts_S32x128_S1x32x128) 42 le_rfl := by
  sl_kernel_rfl

/-- What the body leaves in the output block. -/
theorem out_apply (g : grid0.Coords) (arg8 : Memref sig .tc .vmem S42x32x128 .f32) (harg8 : arg8.IsWhole)
    (n : Fin 42) (i : Fin 32) (j : Fin 128) :
    out0_A_7 c g arg1 harg1 arg2 harg2 arg3 harg3 arg4 harg4 arg5 harg5 arg6 harg6 arg7 harg7 arg8 harg8
      x0 x1 x2 x3 x4 x5 x6 (ix3 n i j) =
    slab c arg1 harg1 arg2 harg2 arg3 harg3 arg4 harg4 arg5 harg5 arg6 harg6 arg7 harg7 x0 x1 x2 x3 x4 x5 x6 n (ix2 i j) := by
  unfold out0_A_7
  rw [stores_eq]
  refine (View.read_tilePieces _ _ _ _ _ _ 42 le_rfl (ix3 n i j) n n.isLt (ix3 (0 : Fin 1) i j) ?_ 0 ?_).trans
    (shapeCast_ab_1ab_apply _ _ 0 i j)
  · intro a; fin_cases a
    · rfl
    · show i.val = 0 + i.val; omega
    · show j.val = 0 + j.val; omega
  · intro n' hn
    have : n'.val ≠ n.val := fun h => hn (Fin.ext h)
    show n.val < n'.val ∨ n'.val + 1 ≤ n.val
    omega

end Cert.KernelIdeal.Body

end
-- ==== Proof.BodyPoint.lean ====
module

public import proofs.«01_k».proof.Proof.BodyRun
public import proofs.«01_k».proof.Proof.Spec

/-!
# The body at one residue

At a residue whose type is `a` the functions of `Body` are those of `Spec`.
-/

@[expose] public section

set_option maxRecDepth 16384

noncomputable section

namespace Cert.KernelIdeal.Body

open Idealize.ShloMosaic Idealize.ShloMosaic.TcCoe
open Idealize.ShloMosaic.ValueIdx Cert.KernelIdeal Cert.KernelIdeal.Gen Cert.Res

variable {s ch : IVec S32x128 32} {y : S32x128.Idx} {a : Fin 20}

theorem isType_apply (h : s y = BitVec.ofNat 32 a.val) (n : ℕ) (hn : n < 20) :
    isType s n y = if a.val = n then 1#1 else 0#1 := by
  show BitVec.ofBool (s y == BitVec.ofNat 32 n) = _
  rw [h]
  by_cases e : a.val = n
  · simp [e]
  · have : BitVec.ofNat 32 a.val ≠ BitVec.ofNat 32 n := fun q => e (by
      have := congrArg BitVec.toNat q
      simp only [BitVec.toNat_ofNat] at this
      omega)
    rw [if_neg e, beq_eq_false_iff_ne.mpr this]
    rfl

theorem pickFrom_apply (h : s y = BitVec.ofNat 32 a.val) (f : Fin 20 → Col Ideal) (k n : ℕ) (hn : n ≤ a.val)
    (ha : a.val ≤ n + k) (hk : n + k < 20) : pickFrom s f k n y = f a y := by
  induction k generalizing n with
  | zero =>
    have e : Fin.ofNat 20 n = a := Fin.ext (by show n % 20 = a.val; omega)
    show f (Fin.ofNat 20 n) y = f a y
    rw [e]
  | succ k ih =>
    show Scalar.select (isType s n y) (f (Fin.ofNat 20 n) y) (pickFrom s f k (n + 1) y) = f a y
    rw [isType_apply h n (by omega)]
    by_cases e : a.val = n
    · rw [if_pos e, show Fin.ofNat 20 n = a from Fin.ext (by show n % 20 = a.val; omega)]
      rfl
    · rw [if_neg e, ih (n + 1) (by omega) (by omega) (by omega)]
      rfl

theorem pick_apply (h : s y = BitVec.ofNat 32 a.val) (f : Fin 20 → Col Ideal) : pick s f y = f a y :=
  pickFrom_apply h f 19 0 (Nat.zero_le _) (by omega) (by omega)

theorem foldl_isType (h : s y = BitVec.ofNat 32 a.val) (l : List (Fin 20)) (m : IVec S32x128 1) :
    l.foldl (fun acc b => ori acc (isType s b.val)) m y = if m y = 1#1 ∨ a ∈ l then 1#1 else 0#1 := by
  induction l generalizing m with
  | nil =>
    simp only [List.foldl_nil, List.not_mem_nil, or_false]
    have : ∀ b : BitVec 1, b = if b = 1#1 then 1#1 else 0#1 := by decide
    exact this _
  | cons b l ih =>
    rw [List.foldl_cons, ih]
    have e : (ori m (isType s b.val)) y = m y ||| (if a.val = b.val then 1#1 else 0#1) :=
      congrArg (m y ||| ·) (isType_apply h b.val b.isLt)
    have o : ∀ u v : BitVec 1, (u ||| v = 1#1) ↔ (u = 1#1 ∨ v = 1#1) := by decide
    refine if_congr ?_ rfl rfl
    rw [e, o, List.mem_cons, or_assoc]
    refine or_congr Iff.rfl (or_congr ?_ Iff.rfl)
    rw [Fin.ext_iff]
    by_cases q : a.val = b.val <;> simp [q]

theorem choose_apply (h : s y = BitVec.ofNat 32 a.val) (l : List (Fin 20)) (u v : Col Ideal) :
    choose s l u v y = if a ∈ l then u y else v y := by
  cases l with
  | nil => simp [choose]
  | cons b l =>
    show Scalar.select (l.foldl (fun acc b => ori acc (isType s b.val)) (isType s b.val) y) (u y) (v y) = _
    rw [foldl_isType h, isType_apply h b.val b.isLt]
    have : ((if a.val = b.val then 1#1 else 0#1 : BitVec 1) = 1#1 ∨ a ∈ l) ↔ a ∈ b :: l := by
      rw [List.mem_cons, Fin.ext_iff]
      refine or_congr ?_ Iff.rfl
      by_cases q : a.val = b.val <;> simp [q]
    by_cases q : a ∈ b :: l
    · rw [if_pos q, if_pos (this.mpr q)]; rfl
    · rw [if_neg q, if_neg (fun r => q (this.mp r))]; rfl

theorem mem_turners (i : Fin 10) (k : Fin 4) : a ∈ turners i k ↔ turned a k = BitVec.ofNat 32 i.val := by
  unfold turners
  rw [List.mem_filter]
  simp [List.mem_finRange]

theorem turn_apply (h : s y = BitVec.ofNat 32 a.val) (i : Fin 10) (tab : Fin 20 → Col Ideal) (t : Fin 4 → Col Ideal) :
    turn s i tab t y = Res.turn a i (tab a y) (fun k => t k y) := by
  unfold turn Res.turn
  simp only [choose_apply h, pick_apply h, mem_turners]

/-- Three components read at a residue. -/
def at3 (v : Fin 3 → Col Ideal) (y : S32x128.Idx) : Vec3 := fun c => v c y

theorem at3_pick (h : s y = BitVec.ofNat 32 a.val) (f : Fin 20 → Fin 3 → Col Ideal) :
    at3 (fun c => pick s fun a => f a c) y = fun c => f a c y := funext fun c => pick_apply h _

theorem normed_apply (v : Fin 3 → Col Ideal) : at3 (normed v) y = Res.normed (at3 v y) := rfl

theorem sub3_apply (u v : Fin 3 → Col Ideal) : at3 (sub3 u v) y = Res.sub3 (at3 u y) (at3 v y) := rfl

theorem cross_apply (u v : Fin 3 → Col Ideal) : at3 (cross u v) y = Res.cross (at3 u y) (at3 v y) := by
  funext c; fin_cases c <;> rfl

theorem dot_apply (u v : Fin 3 → Col Ideal) : dot u v y = Res.dot (at3 u y) (at3 v y) := by
  show (if BitVec.ofBool (decide (Res.dot (at3 u y) (at3 v y) = Ideal.ofBits .f32 0#32)) = 1 then Ideal.ofBits .f32 0#32
    else Res.dot (at3 u y) (at3 v y)) = _
  by_cases e : Res.dot (at3 u y) (at3 v y) = Ideal.ofBits .f32 0#32
  · rw [← e]; exact ite_self _
  · rw [decide_eq_false e]; rfl

theorem torsion_apply (u v w : Fin 3 → Col Ideal) : torsion u v w y = Res.torsion (at3 u y) (at3 v y) (at3 w y) := by
  show Ideal.atan2 (dot (F := Ideal) v (cross (normed (cross u v)) (normed (cross v w))) y : EReal)
    (dot (F := Ideal) (normed (cross u v)) (normed (cross v w)) y : EReal) = _
  rw [dot_apply, dot_apply, cross_apply, normed_apply, normed_apply, cross_apply, cross_apply]
  rfl

/-- The pattern of a small number denotes it. -/
theorem ofBits_natBits (n : ℕ) (h : n ≤ 14) : Ideal.ofBits .f32 (natBits n) = ((n : ℕ) : EReal) := by
  rw [show ((n : ℕ) : EReal) = ((n : ℝ) : EReal) from (EReal.coe_natCast).symm]
  interval_cases n <;> simp [natBits, Ideal.ofBits, Ideal.ieee, -EReal.coe_mul, -EReal.coe_natCast]
  all_goals norm_num [-EReal.coe_mul]

theorem one_or_zero (b : Bool) : Scalar.select (BitVec.ofBool b) (Ideal.ofBits .f32 0x3F800000#32)
    (Ideal.ofBits .f32 0#32) = if b then (1 : EReal) else 0 := by
  cases b
  · exact Ideal.ofBits_zero_f32
  · exact Ideal.ofBits_one_f32

theorem below_apply (k : ℕ) (hk : k ≤ 14) (n : Col Ideal) : below k n y = Res.below k (n y) := by
  show Scalar.select (BitVec.ofBool (decide (Ideal.ofBits .f32 (natBits k) < n y))) (Ideal.ofBits .f32 0x3F800000#32)
    (Ideal.ofBits .f32 0#32) = _
  rw [one_or_zero, ofBits_natBits k hk]
  unfold Res.below
  simp only [decide_eq_true_eq]

theorem count_apply (h : s y = BitVec.ofNat 32 a.val) (n : Fin 20 → BitVec 32) (hn : (n a).toNat ≤ 14) :
    (count s ch n y : Ideal .f32) = Res.count (n a) (ch y) := by
  show (pick s (fun a => flat (F := Ideal) (natBits (n a).toNat)) y : EReal) *
    Scalar.select (BitVec.ofBool ((0#32).slt (ch y))) (Ideal.ofBits .f32 0x3F800000#32) (Ideal.ofBits .f32 0#32) = _
  rw [pick_apply h, one_or_zero]
  exact congrArg (· * _) (ofBits_natBits _ hn)

theorem chi_apply (h : s y = BitVec.ofNat 32 a.val) (n : Col Ideal) (hn : n y = Res.count (numChi a) (ch y))
    (x : Fin 14 → Fin 3 → Col Ideal) (k : Fin 4) :
    (chi s n x k y : Ideal .f32) = Res.chi a (ch y) (fun p c => x p c y) k := by
  unfold chi Res.chi
  show (torsion (F := Ideal) _ _ _ y : EReal) * (below (F := Ideal) k.val n y : EReal) = _
  rw [below_apply _ (by omega), hn, torsion_apply]
  simp only [normed_apply, sub3_apply]
  rw [at3_pick h fun a => x (chiAtom a k 0), at3_pick h fun a => x (chiAtom a k 1), at3_pick h fun a => x (chiAtom a k 2),
    at3_pick h fun a => x (chiAtom a k 3)]

theorem place_apply (p1 p2 p3 : Fin 3 → Col Ideal) (len cA sA cD sD : Col Ideal) (c : Fin 3) :
    place p1 p2 p3 len cA sA cD sD c y =
      Res.place (at3 p1 y) (at3 p2 y) (at3 p3 y) (len y) (cA y) (sA y) (cD y) (sD y) c := by
  show (Ideal.ofBits .f32 0#32 + (p3 c y + len y * (((Ideal.ofBits .f32 0#32 - cA y) * at3 (normed (sub3 p3 p2)) y c
    + sA y * cD y * at3 (cross (normed (cross (sub3 p1 p2) (normed (sub3 p3 p2)))) (normed (sub3 p3 p2))) y c)
    + sA y * sD y * at3 (normed (cross (sub3 p1 p2) (normed (sub3 p3 p2)))) y c)) : EReal) = _
  simp only [Ideal.ofBits_zero_f32, zero_add, sub_eq_add_neg, cross_apply, normed_apply, sub3_apply]
  rfl

/-- The count tables' entries are small, and a parent lies before its child. -/
theorem numChi_le (a : Fin 20) : (numChi a).toNat ≤ 14 := by revert a; decide +kernel
theorem numAtoms_le (a : Fin 20) : (numAtoms a).toNat ≤ 14 := by revert a; decide +kernel
theorem parent_lt (a : Fin 20) (i : Fin 10) (t : Fin 3) : (parent a i t).val < 4 + i.val := by
  revert a i t; decide +kernel

theorem atom_apply (h : s y = BitVec.ofNat 32 a.val) (q : Fin 14 → Fin 3 → Col Ideal)
    (cA sA cD sD : Fin 20 → Fin 10 → Col Ideal) (x : Fin 4 → Col Ideal) (r : Fin 14 → Vec3) (i : Fin 10)
    (hq : ∀ p : Fin 14, p.val < 4 + i.val → ∀ c, q p c y = r p c)
    (hcA : cA a i y = Ideal.cos (Ideal.ofBits .f32 (angle a i))) (hsA : sA a i y = Ideal.sin (Ideal.ofBits .f32 (angle a i)))
    (hcD : cD a i y = Ideal.cos (Ideal.ofBits .f32 (dihedral a i)))
    (hsD : sD a i y = Ideal.sin (Ideal.ofBits .f32 (dihedral a i))) (c : Fin 3) :
    atom s q cA sA cD sD (fun k => cos (x k)) (fun k => sin (x k)) i c y = Res.atom a r (fun k => x k y) i c := by
  unfold atom Res.atom
  rw [place_apply, at3_pick h fun a => q (parent a i 0), at3_pick h fun a => q (parent a i 1),
    at3_pick h fun a => q (parent a i 2)]
  simp only [turn_apply h, pick_apply h, hcA, hsA, hcD, hsD, hq _ (parent_lt a i _), apply_turn Ideal.cos,
    apply_turn Ideal.sin]
  rfl

variable (c : Dev nD) (arg1 : Memref sig .tc .vmem S42x32x128 .f32) (harg1 : arg1.IsWhole)
  (arg2 : Memref sig .tc .vmem S32x128 .i32) (harg2 : arg2.IsWhole)
  (arg3 : Memref sig .tc .vmem S32x128 .i32) (harg3 : arg3.IsWhole)
  (arg4 : Memref sig .tc .smem S20x10 .f32) (harg4 : arg4.IsWhole)
  (arg5 : Memref sig .tc .smem S20x10 .f32) (harg5 : arg5.IsWhole)
  (arg6 : Memref sig .tc .smem S20x10 .f32) (harg6 : arg6.IsWhole)
  (arg7 : Memref sig .tc .smem S20x10 .f32) (harg7 : arg7.IsWhole)
  (x0 : Vec Ideal S42x32x128 .f32) (x1 x2 : Vec Ideal S32x128 .i32) (x3 x4 x5 x6 : Vec Ideal S20x10 .f32)

/-- The atoms a residue is given, in the block's layout. -/
def given (x0 : Vec Ideal S42x32x128 .f32) (i : Fin 32) (j : Fin 128) : Fin 14 → Vec3 := fun p c =>
  x0 (ix3 ⟨3 * p.val + c.val, by omega⟩ i j)

theorem chi_run (i : Fin 32) (j : Fin 128) (h : x1 (ix2 i j) = BitVec.ofNat 32 a.val) (k : Fin 4) :
    (chi (loadWords arg2 harg2 x1) (kernelRun0_A.sl.r_17 (F := Ideal) c arg2 harg2 arg3 harg3 x1 x2)
      (load arg1 harg1 x0) k (ix2 i j) : Ideal .f32) = Res.chi a (x2 (ix2 i j)) (given x0 i j) k := by
  have hs : loadWords arg2 harg2 x1 (ix2 i j) = BitVec.ofNat 32 a.val := (loadWords_apply ..).trans h
  rw [chi_apply (ch := loadWords arg3 harg3 x2) hs, loadWords_apply]
  · exact congrArg (fun x => Res.chi a _ x k) (funext fun p => funext fun c => load_apply ..)
  · rw [count_chi]
    exact count_apply hs numChi (numChi_le a)

variable (t3 : ∀ a i, (x3 (ix2 a i) : Ideal .f32) = Ideal.cos (Ideal.ofBits .f32 (angle a i)))
  (t4 : ∀ a i, (x4 (ix2 a i) : Ideal .f32) = Ideal.sin (Ideal.ofBits .f32 (angle a i)))
  (t5 : ∀ a i, (x5 (ix2 a i) : Ideal .f32) = Ideal.cos (Ideal.ofBits .f32 (dihedral a i)))
  (t6 : ∀ a i, (x6 (ix2 a i) : Ideal .f32) = Ideal.sin (Ideal.ofBits .f32 (dihedral a i)))

include t3 t4 t5 t6 in
theorem slots_run (i : Fin 32) (j : Fin 128) (h : x1 (ix2 i j) = BitVec.ofNat 32 a.val) (n : ℕ) (hn : n ≤ 10)
    (p : Fin 14) (hp : p.val < 4 + n) (e : Fin 3) :
    (slots c arg1 harg1 arg2 harg2 arg3 harg3 arg4 harg4 arg5 harg5 arg6 harg6 arg7 harg7 x0 x1 x2 x3 x4 x5 x6 p e
      (ix2 i j) : Ideal .f32) =
      state a (given x0 i j) (Res.chi a (x2 (ix2 i j)) (given x0 i j)) n hn p e := by
  have hs : loadWords arg2 harg2 x1 (ix2 i j) = BitVec.ofNat 32 a.val := (loadWords_apply ..).trans h
  induction n generalizing p e with
  | zero =>
    have hp' : p.val < 4 := hp
    have e0 := slots_given (F := Ideal) c arg1 harg1 arg2 harg2 arg3 harg3 arg4 harg4 arg5 harg5 arg6 harg6 arg7 harg7 x0 x1
      x2 x3 x4 x5 x6 ⟨p.val, hp'⟩ e
    exact (congrFun e0 (ix2 i j)).trans ((load_apply ..).trans (if_pos hp').symm)
  | succ n ih =>
    by_cases q : p.val = 4 + n
    · have e0 := slots_placed (F := Ideal) c arg1 harg1 arg2 harg2 arg3 harg3 arg4 harg4 arg5 harg5 arg6 harg6 arg7 harg7 x0 x1
        x2 x3 x4 x5 x6 ⟨n, by omega⟩ e
      rw [show (⟨4 + (⟨n, by omega⟩ : Fin 10).val, by simp only; omega⟩ : Fin 14) = p from Fin.ext q.symm,
        show cosRun (F := Ideal) c arg1 harg1 arg2 harg2 arg3 harg3 x0 x1 x2 = _ from funext fun k => cosRun_eq ..,
        show sinRun (F := Ideal) c arg1 harg1 arg2 harg2 arg3 harg3 x0 x1 x2 = _ from funext fun k => sinRun_eq ..] at e0
      rw [e0, atom_apply hs _ _ _ _ _ _ (state a (given x0 i j) (Res.chi a (x2 (ix2 i j)) (given x0 i j)) n (by omega)) _
          (fun p hp e => ih (by omega) p hp e) ((entry_apply ..).trans (t3 a _)) ((entry_apply ..).trans (t4 a _))
          ((entry_apply ..).trans (t5 a _)) ((entry_apply ..).trans (t6 a _))]
      simp only [chi_run c arg1 harg1 arg2 harg2 arg3 harg3 x0 x1 x2 i j h]
      exact (congrFun (if_pos q) e).symm
    · rw [ih (by omega) p (by omega)]
      exact (congrFun (if_neg q) e).symm

include t3 t4 t5 t6 in
/-- What the run leaves at a residue is the residue's result. -/
theorem slab_run (i : Fin 32) (j : Fin 128) (h : x1 (ix2 i j) = BitVec.ofNat 32 a.val) (n : Fin 42) :
    (slab c arg1 harg1 arg2 harg2 arg3 harg3 arg4 harg4 arg5 harg5 arg6 harg6 arg7 harg7 x0 x1 x2 x3 x4 x5 x6 n
      (ix2 i j) : Ideal .f32) =
      residue a (x2 (ix2 i j)) (given x0 i j) ⟨n.val / 3, by omega⟩ ⟨n.val % 3, by omega⟩ := by
  have hs : loadWords arg2 harg2 x1 (ix2 i j) = BitVec.ofNat 32 a.val := (loadWords_apply ..).trans h
  show (below (F := Ideal) (n.val / 3) _ (ix2 i j) : EReal) * (slots (F := Ideal) .. : EReal) = _
  rw [slots_run (t3 := t3) (t4 := t4) (t5 := t5) (t6 := t6) (h := h) (n := 10) (hn := le_rfl) (hp := by simp only; omega),
    below_apply _ (by omega), count_apply hs numAtoms (numAtoms_le a), loadWords_apply]
  rfl

end Cert.KernelIdeal.Body

end
-- ==== Proof.RefPoint.lean ====
module

public import proofs.«01_k».proof.Proof.Ref
public import Idealize.ShloMosaic.PureOps.Ideal.Laws

/-!
# The reference at one residue

Each of the reference's arrays, read at a residue of type `a`, is the function of `Spec` of that residue's row.
-/

@[expose] public section

set_option maxRecDepth 8192

noncomputable section

namespace Cert.ReferenceIdeal.Ref

open Idealize.ShloMosaic Idealize.ShloMosaic.TcCoe
open Idealize.ShloMosaic.ValueIdx Cert.ReferenceIdeal Cert.ReferenceIdeal.Gen Cert.ReferenceIdeal.Read Cert.Res

variable {a : Fin 20} {b : Fin 16} {r : Fin 4096} {X : FVec Ideal S16x4096x14x3 .f32} {C S : IVec S16x4096 32}

/-- A small word is not negative, so wrapping leaves it. -/
theorem wrapped {w : BitVec 32} {n : ℕ} (h : w = BitVec.ofNat 32 n) (hn : n < 2 ^ 31) (k : BitVec 32) :
    Scalar.select (BitVec.ofBool (w.slt 0#32)) (w + k) w = BitVec.ofNat 32 n := by
  subst h
  have : (BitVec.ofNat 32 n).slt 0#32 = false := by
    simp only [BitVec.slt, BitVec.toInt_eq_toNat_cond, BitVec.toNat_ofNat, Nat.mod_eq_of_lt (show n < 2 ^ 32 by omega)]
    rw [if_pos (by omega)]
    simp
  rw [this]
  rfl

theorem rows_apply (h : S (ix2 b r) = BitVec.ofNat 32 a.val) : rows S (ix3 b r 0) = BitVec.ofNat 32 a.val := by
  unfold rows
  rw [bc_unit]
  exact wrapped h (by omega) 20#32

theorem atoms4_apply {v : IVec S16x4096x4x1 32} {i : Fin 4} {p : Fin 14} (h : v (ix4 b r i 0) = BitVec.ofNat 32 p.val)
    (c : Fin 3) : atoms4 X v (ix4 b r i c) = X (ix4 b r p c) :=
  gather_atom4 b r X _ i c p (wrapped h (by omega) 14#32)

theorem atoms3_apply {v : IVec S16x4096x3x1 32} {i : Fin 3} {p : Fin 14} (h : v (ix4 b r i 0) = BitVec.ofNat 32 p.val)
    (c : Fin 3) : atoms3 X v (ix4 b r i c) = X (ix4 b r p c) :=
  gather_atom3 b r X _ i c p (wrapped h (by omega) 14#32)

/-- Three coordinates of an array of points. -/
def vec4 (v : FVec Ideal S16x4096x4x3 .f32) (b : Fin 16) (r : Fin 4096) (i : Fin 4) : Vec3 := fun c => v (ix4 b r i c)
def vec1 (v : FVec Ideal S16x4096x3 .f32) (b : Fin 16) (r : Fin 4096) : Vec3 := fun c => v (ix3 b r c)

theorem dot4_apply (u v : FVec Ideal S16x4096x4x3 .f32) (i : Fin 4) :
    dot4 u v (ix3 b r i) = Res.dot (vec4 u b r i) (vec4 v b r i) := by
  have hr : S16x4096x4x3.Reduces [3] S16x4096x4 := by decide
  refine (Ideal.hostReduceAdd_single reducesTo_S16x4096x4x3_S16x4096x4_d3 hr (mulf u v) _ _).trans ?_
  have e : ∀ k : Fin 3, hr.lift (ix3 b r i) k = ix4 b r i k := fun k => by funext d; fin_cases d <;> rfl
  refine (congrArg₂ (· + ·) Ideal.ofBits_zero_f32 (Finset.sum_congr rfl fun k _ => congrArg (mulf u v) (e k))).trans ?_
  rw [zero_add]
  exact Fin.sum_univ_three _

theorem dot1_apply (u v : FVec Ideal S16x4096x3 .f32) : dot1 u v (ix2 b r) = Res.dot (vec1 u b r) (vec1 v b r) := by
  have hr : S16x4096x3.Reduces [2] S16x4096 := by decide
  refine (Ideal.hostReduceAdd_single reducesTo_S16x4096x3_S16x4096_d2 hr (mulf u v) _ _).trans ?_
  have e : ∀ k : Fin 3, hr.lift (ix2 b r) k = ix3 b r k := fun k => by funext d; fin_cases d <;> rfl
  refine (congrArg₂ (· + ·) Ideal.ofBits_zero_f32 (Finset.sum_congr rfl fun k _ => congrArg (mulf u v) (e k))).trans ?_
  rw [zero_add]
  exact Fin.sum_univ_three _

theorem normed4_apply (v : FVec Ideal S16x4096x4x3 .f32) (i : Fin 4) :
    vec4 (normed4 v) b r i = Res.normed (vec4 v b r i) := by
  funext c
  unfold normed4
  show Ideal.div (v (ix4 b r i c)) (broadcastInDim _ _ _ _ _) = _
  rw [bc_axis4x3]
  show Ideal.div (v (ix4 b r i c)) (Ideal.sqrt (broadcastInDim _ _ _ _ _ + Ideal.ofBits .f32 0x358637BD#32)) = _
  rw [bc_unit4, dot4_apply]
  rfl

theorem normed1_apply (v : FVec Ideal S16x4096x3 .f32) : vec1 (normed1 v) b r = Res.normed (vec1 v b r) := by
  funext c
  unfold normed1
  show Ideal.div (v (ix3 b r c)) (broadcastInDim _ _ _ _ _) = _
  rw [bc_axis3]
  show Ideal.div (v (ix3 b r c)) (Ideal.sqrt (broadcastInDim _ _ _ _ _ + Ideal.ofBits .f32 0x358637BD#32)) = _
  rw [bc_unit, dot1_apply]
  rfl

theorem cross4_apply (u v : FVec Ideal S16x4096x4x3 .f32) (i : Fin 4) :
    vec4 (cross4 u v) b r i = Res.cross (vec4 u b r i) (vec4 v b r i) := by
  have e : ∀ w : FVec Ideal S16x4096x4x3 .f32, ∀ t, coord4 w t (ix4 b r i 0) = vec4 w b r i t :=
    fun w t => slice_coord4 b r 0 i t w _
  funext c
  refine (concat4 b r i c _ _ _ concatenates_S16x4096x4x1_S16x4096x4x1_S16x4096x4x1_S16x4096x4x3_d3).trans ?_
  unfold Res.cross
  simp only [← e]
  fin_cases c <;> rfl

theorem cross1_apply (u v : FVec Ideal S16x4096x3 .f32) :
    vec1 (cross1 u v) b r = Res.cross (vec1 u b r) (vec1 v b r) := by
  have e : ∀ w : FVec Ideal S16x4096x3 .f32, ∀ t, coord1 w t (ix3 b r 0) = vec1 w b r t :=
    fun w t => slice_coord b r 0 t w _
  funext c
  refine (concat1 b r c _ _ _ concatenates_S16x4096x1_S16x4096x1_S16x4096x1_S16x4096x3_d2).trans ?_
  unfold Res.cross
  simp only [← e]
  fin_cases c <;> rfl

/-- The tables at their coordinates. -/
theorem lit0_eq (a : Fin 20) (k t : Fin 4) : lit0 (S20x4x4.rowMajor (ix3 a k t)) = BitVec.ofNat 32 (chiAtom a k t).val := by
  rw [show S20x4x4.rowMajor (ix3 a k t) = ⟨16 * a.val + 4 * k.val + t.val, by show _ < 320; omega⟩ from
    Fin.ext (by rw [Shape.rowMajor_val_three]; simp [ix3]; omega)]
  revert a k t
  decide +kernel

theorem lit6_eq (a : Fin 20) (i : Fin 10) (t : Fin 3) :
    lit6 (S20x10x3.rowMajor (ix3 a i t)) = BitVec.ofNat 32 (parent a i t).val := by
  rw [show S20x10x3.rowMajor (ix3 a i t) = ⟨30 * a.val + 3 * i.val + t.val, by show _ < 600; omega⟩ from
    Fin.ext (by rw [Shape.rowMajor_val_three]; simp [ix3]; omega)]
  revert a i t
  decide +kernel

theorem lit5_eq (a : Fin 20) (k : Fin 4) : lit5 (S20x4.rowMajor (ix2 a k)) = turned a k :=
  congrArg lit5 (Fin.ext (by rw [Shape.rowMajor_val_two]; simp [ix2]; omega))

theorem rowMajor_tab (a : Fin 20) (i : Fin 10) :
    S20x10.rowMajor (ix2 a i) = ⟨10 * a.val + i.val, by show _ < 200; omega⟩ :=
  Fin.ext (by rw [Shape.rowMajor_val_two]; simp [ix2]; omega)

theorem rowMajor_type (a : Fin 20) : S20.rowMajor (ix1 a) = a := Fin.ext (by rw [Shape.rowMajor_val_one])

/-- A residue's row of atoms. -/
def row (X : FVec Ideal S16x4096x14x3 .f32) (b : Fin 16) (r : Fin 4096) : Fin 14 → Vec3 := fun p c => X (ix4 b r p c)

theorem named_apply (h : S (ix2 b r) = BitVec.ofNat 32 a.val) (t k : Fin 4) :
    vec4 (named X S t) b r k = row X b r (chiAtom a k t) := by
  funext c
  refine atoms4_apply ?_ c
  rw [bc_unit4, cast_drop4, slice_named, gather_row4x4 b r _ _ (rows_apply h)]
  exact lit0_eq a k t

theorem bond4_apply (h : S (ix2 b r) = BitVec.ofNat 32 a.val) (t t' k : Fin 4) :
    vec4 (bond4 X S t t') b r k = Res.normed (Res.sub3 (row X b r (chiAtom a k t')) (row X b r (chiAtom a k t))) := by
  unfold bond4
  rw [normed4_apply, ← named_apply h, ← named_apply h]
  rfl

/-- The bit of a comparison as a float. -/
theorem bit_float (p : Bool) : (((BitVec.ofBool p).toNat : ℝ) : EReal) = if p then 1 else 0 := by
  cases p <;> simp

theorem small_toInt {w : BitVec 32} (h : w.toNat ≤ 14) : ((w.toInt : ℝ) : EReal) = ((w.toNat : ℕ) : EReal) := by
  have : w.toInt = (w.toNat : ℤ) := by
    rw [BitVec.toInt_eq_toNat_cond, if_pos (by omega)]
  rw [this, ← EReal.coe_natCast]
  simp

theorem counts_apply (h : S (ix2 b r) = BitVec.ofNat 32 a.val) (tab : IVec S20 32) (n : BitVec 32)
    (hn : tab (ix1 a) = n) (hs : n.toNat ≤ 14) : (counts tab C S (ix3 b r 0) : Ideal .f32) = Res.count n (C (ix2 b r)) := by
  unfold counts
  rw [bc_unit]
  show (((Host.gather gather_S20_S16x4096x1_S16x4096_n_0_n_n_0_2_1 tab (rows S) (ix2 b r)).toInt : ℝ) : EReal) *
    (((BitVec.ofBool ((0#32).slt (C (ix2 b r)))).toNat : ℝ) : EReal) = _
  rw [gather_row b r _ _ (rows_apply h), hn, small_toInt hs, bit_float]
  rfl

/-- The bit of a slot's number below a count. -/
theorem below_bit (k : ℕ) (hk : k ≤ 14) (n : EReal) :
    (((BitVec.ofBool (decide ((((BitVec.ofNat 32 k).toInt : ℝ) : EReal) < n))).toNat : ℝ) : EReal) = Res.below k n := by
  have e : (BitVec.ofNat 32 k).toNat = k := by rw [BitVec.toNat_ofNat]; omega
  rw [small_toInt (by omega), e, bit_float]
  unfold Res.below
  simp only [decide_eq_true_eq]

theorem numChi_le (a : Fin 20) : (numChi a).toNat ≤ 14 := by revert a; decide +kernel
theorem numAtoms_le (a : Fin 20) : (numAtoms a).toNat ≤ 14 := by revert a; decide +kernel

theorem chis_apply (h : S (ix2 b r) = BitVec.ofNat 32 a.val) (k : Fin 4) :
    (chis X C S (ix3 b r k) : Ideal .f32) = Res.chi a (C (ix2 b r)) (row X b r) k := by
  unfold chis Res.chi Res.torsion
  refine congrArg₂ (· * ·) (congrArg₂ Ideal.atan2 ?_ ?_) ?_
  · rw [dot4_apply, cross4_apply, normed4_apply, normed4_apply, cross4_apply, cross4_apply, bond4_apply h, bond4_apply h,
      bond4_apply h]
  · rw [dot4_apply, normed4_apply, normed4_apply, cross4_apply, cross4_apply, bond4_apply h, bond4_apply h, bond4_apply h]
  · refine (congrArg₂ (fun u v : EReal => (((BitVec.ofBool (decide (u < v))).toNat : ℝ) : EReal))
      ((bc_all4 b r k _ _).trans (congrArg (fun w : BitVec 32 => ((w.toInt : ℝ) : EReal)) (bc_lift4 0 0 k _ _)))
      ((bc_axis4 b r k _ _).trans (counts_apply h _ (numChi a) (congrArg lit1 (rowMajor_type a)) (numChi_le a)))).trans ?_
    exact below_bit k.val (by omega) _

theorem table_apply (h : S (ix2 b r) = BitVec.ofNat 32 a.val) (T : FVec Ideal S20x10 .f32) (i : Fin 10) :
    table T S (ix3 b r i) = T (ix2 a i) := gather_row10 b r _ _ (rows_apply h) i

theorem spread_apply {α : Type} (v : S16x4096x4.Idx → α) (k : Fin 4) (i : Fin 10) :
    spread v k (ix3 b r i) = v (ix3 b r k) := by
  unfold spread
  rw [bc_axis10, bc_unit, cast_drop, slice_of4]

theorem turnBy_apply (h : S (ix2 b r) = BitVec.ofNat 32 a.val) (chi : FVec Ideal S16x4096x4 .f32) (k : Fin 4)
    (d : FVec Ideal S16x4096x10 .f32) (i : Fin 10) :
    (turnBy S chi k d (ix3 b r i) : Ideal .f32) =
      if turned a k = BitVec.ofNat 32 i.val then chi (ix3 b r k) else d (ix3 b r i) := by
  unfold turnBy
  show Scalar.select (BitVec.ofBool (spread _ k (ix3 b r i) == broadcastInDim _ _ _ _ (ix3 b r i))) (spread chi k (ix3 b r i))
    (d (ix3 b r i)) = _
  rw [spread_apply, spread_apply, bc_all10, bc_lift10, gather_row4 b r _ _ (rows_apply h), lit5_eq]
  show Scalar.select (BitVec.ofBool (turned a k == BitVec.ofNat 32 i.val)) _ _ = _
  by_cases e : turned a k = BitVec.ofNat 32 i.val
  · rw [if_pos e, beq_iff_eq.mpr e]; rfl
  · rw [if_neg e, beq_eq_false_iff_ne.mpr e]; rfl

theorem dihedrals_apply (h : S (ix2 b r) = BitVec.ofNat 32 a.val) (chi : FVec Ideal S16x4096x4 .f32) (i : Fin 10) :
    (dihedrals S chi (ix3 b r i) : Ideal .f32) =
      Res.turn a i (Ideal.ofBits .f32 (dihedral a i)) (fun k => chi (ix3 b r k)) := by
  unfold dihedrals Res.turn
  simp only [turnBy_apply h, table_apply h]
  rw [rowMajor_tab]
  rfl

theorem lift3_apply (v : FVec Ideal S16x4096x1 .f32) (c : Fin 3) : lift3 v (ix3 b r c) = v (ix3 b r 0) :=
  bc_axis3 b r c v _

theorem lift_apply (v : FVec Ideal S16x4096 .f32) : lift v (ix3 b r 0) = v (ix2 b r) := bc_unit b r 0 v _

theorem place_apply (p1 p2 p3 : FVec Ideal S16x4096x3 .f32) (len ang dih : FVec Ideal S16x4096 .f32) :
    vec1 (place p1 p2 p3 len ang dih) b r =
      Res.place (vec1 p1 b r) (vec1 p2 b r) (vec1 p3 b r) (len (ix2 b r)) (Ideal.cos (ang (ix2 b r)))
        (Ideal.sin (ang (ix2 b r))) (Ideal.cos (dih (ix2 b r))) (Ideal.sin (dih (ix2 b r))) := by
  have hs : ∀ u v : FVec Ideal S16x4096x3 .f32, vec1 (subf u v) b r = Res.sub3 (vec1 u b r) (vec1 v b r) := fun _ _ => rfl
  funext c
  unfold Res.place
  rw [← hs, ← hs, ← normed1_apply, ← cross1_apply, ← normed1_apply, ← cross1_apply]
  unfold place
  show (p3 (ix3 b r c) + lift3 (lift len) (ix3 b r c) * ((lift3 (Host.negf (lift (Host.cos ang))) (ix3 b r c) * _ +
    lift3 (mulf (lift (Host.sin ang)) (lift (Host.cos dih))) (ix3 b r c) * _) +
    lift3 (mulf (lift (Host.sin ang)) (lift (Host.sin dih))) (ix3 b r c) * _) : EReal) = _
  simp only [lift3_apply, lift_apply]
  show (p3 (ix3 b r c) + len (ix2 b r) * ((-(lift (Host.cos ang) (ix3 b r 0)) * _ +
    (lift (Host.sin ang) (ix3 b r 0) * lift (Host.cos dih) (ix3 b r 0)) * _) +
    (lift (Host.sin ang) (ix3 b r 0) * lift (Host.sin dih) (ix3 b r 0)) * _) : EReal) = _
  simp only [lift_apply]
  rfl

theorem parents_apply (h : S (ix2 b r) = BitVec.ofNat 32 a.val) (i : Fin 10) (t : Fin 3) :
    vec1 (parents X S i t) b r = row X b r (parent a i t) := by
  funext c
  unfold vec1 parents
  rw [cast_mid, slice_of3x3]
  refine atoms3_apply ?_ c
  rw [bc_unit3, cast_mid, slice_of10x3, gather_row10x3 b r _ _ (rows_apply h)]
  exact lit6_eq a i t

theorem column_apply (v : FVec Ideal S16x4096x10 .f32) (i : Fin 10) : column v i (ix2 b r) = v (ix3 b r i) := by
  unfold column
  rw [cast_drop, slice_of10]

theorem slot_apply (k k' : Fin 1) (p : Fin 14) : slot (ix4 k k' p 0) = BitVec.ofNat 32 p.val := bc_slots k k' 0 p _ _

theorem start_apply : row (start X) b r = fun p c => if p.val < 4 then row X b r p c else 0 := by
  funext p c
  show Scalar.select (broadcastInDim _ _ _ (cmpi .slt slot _) (ix4 b r p c)) (X (ix4 b r p c)) (Ideal.ofBits .f32 0#32) = _
  rw [bc_slots_all, Ideal.ofBits_zero_f32]
  show Scalar.select (BitVec.ofBool ((slot (ix4 0 0 p 0)).slt 4#32)) _ _ = _
  rw [slot_apply]
  have e : ∀ p : Fin 14, (BitVec.ofNat 32 p.val).slt 4#32 = decide (p.val < 4) := by decide
  rw [e]
  by_cases q : p.val < 4
  · rw [decide_eq_true q, if_pos q]; rfl
  · rw [decide_eq_false q, if_neg q]; rfl

theorem step_apply (h : S (ix2 b r) = BitVec.ofNat 32 a.val) (dih : FVec Ideal S16x4096x10 .f32) (t : Fin 4 → EReal)
    (hd : ∀ i, (dih (ix3 b r i) : Ideal .f32) = Res.turn a i (Ideal.ofBits .f32 (dihedral a i)) t) (i : Fin 10) :
    row (step S dih i X) b r = Res.step a t i (row X b r) := by
  funext p c
  unfold step
  show Scalar.select (broadcastInDim _ _ _ (cmpi .eq slot _) (ix4 b r p c)) (broadcastInDim _ _ _ _ (ix4 b r p c))
    (X (ix4 b r p c)) = _
  rw [bc_slots_all, bc_point14, bc_point]
  show Scalar.select (BitVec.ofBool (slot (ix4 0 0 p 0) == BitVec.ofNat 32 (4 + i.val)))
    (vec1 (place (parents X S i 0) (parents X S i 1) (parents X S i 2) _ _ _) b r c) _ = _
  rw [slot_apply, place_apply, parents_apply h, parents_apply h, parents_apply h, column_apply, column_apply, column_apply,
    table_apply h, table_apply h, hd, rowMajor_tab]
  unfold Res.step
  have e : ∀ (p : Fin 14) (i : Fin 10), (BitVec.ofNat 32 p.val == BitVec.ofNat 32 (4 + i.val)) = decide (p.val = 4 + i.val) := by
    decide
  rw [e]
  by_cases q : p.val = 4 + i.val
  · rw [decide_eq_true q, if_pos q]; rfl
  · rw [decide_eq_false q, if_neg q]; rfl

theorem state_apply (h : S (ix2 b r) = BitVec.ofNat 32 a.val) (dih : FVec Ideal S16x4096x10 .f32) (t : Fin 4 → EReal)
    (hd : ∀ i, (dih (ix3 b r i) : Ideal .f32) = Res.turn a i (Ideal.ofBits .f32 (dihedral a i)) t) (n : ℕ) (hn : n ≤ 10) :
    row (state X S dih n hn) b r = Res.state a (row X b r) t n hn := by
  induction n with
  | zero => exact start_apply
  | succ n ih =>
    rw [state, Res.state, step_apply h dih t hd, ih]

/-- The reference's result at a residue is the residue's result. -/
theorem result_apply (h : S (ix2 b r) = BitVec.ofNat 32 a.val) (p : Fin 14) (c : Fin 3) :
    (result X C S (ix4 b r p c) : Ideal .f32) = residue a (C (ix2 b r)) (row X b r) p c := by
  unfold result residue
  refine congrArg₂ (· * ·) ((bc_axis14x3 b r p c _ _).trans ((bc_unit14 b r 0 p _ _).trans ?_)) ?_
  · refine (congrArg₂ (fun u v : EReal => (((BitVec.ofBool (decide (u < v))).toNat : ℝ) : EReal))
      ((bc_all14 b r p _ _).trans (congrArg (fun w : BitVec 32 => ((w.toInt : ℝ) : EReal)) (bc_lift14 0 0 p _ _)))
      ((bc_axis14 b r p _ _).trans (counts_apply h _ (numAtoms a) (congrArg lit7 (rowMajor_type a)) (numAtoms_le a)))).trans ?_
    exact below_bit p.val (by omega) _
  · refine congrFun (congrFun (state_apply h _ _ (fun i => ?_) 10 le_rfl) p) c
    rw [dihedrals_apply h]
    exact congrArg (Res.turn a i _) (funext fun k => chis_apply h k)

end Cert.ReferenceIdeal.Ref

end
-- ==== Proof.Value.lean ====
module

public import proofs.«01_k».proof.Proof.BodyPoint
public import proofs.«01_k».proof.Proof.RefPoint
public import proofs.«01_k».proof.Proof.Gen.KernelIdeal.Frame
public import Idealize.ShloMosaic.Lib.Pipeline.ValueKit
public import proofs.«01_k».proof.Pre_types_in_range
public import Idealize.ShloMosaic.Lib.Claim

/-!
# The kernel's result array

The kernel lays the residues of all chains out in one row of 65536, 512 rows of 128 to a coordinate, and takes 32 of those
rows at each grid point. Each residue comes back where it came from, so the array after the run is the reference's.
-/

@[expose] public section

set_option maxRecDepth 16384

noncomputable section

namespace Cert.KernelIdeal.Value

open Idealize.ShloMosaic hiding ix2 ix3 ix4 eq_ix3 eq_ix4
open Idealize.ShloMosaic.TcCoe Idealize.SL.Sem
open Idealize.ShloMosaic.ValueIdx Cert.KernelIdeal Cert.KernelIdeal.Gen Cert.KernelIdeal.Body Cert.Res
open Idealize.ShloMosaic.Pipeline (Dat)

/-! ## Where a residue lies -/

/-- The chain of the residue at lane `J` of row `I`, and its place in that chain. -/
def chain (I : Fin 512) (J : Fin 128) : Fin 16 := ⟨(I.val * 128 + J.val) / 4096, by omega⟩
@[inherit_doc chain] def spot (I : Fin 512) (J : Fin 128) : Fin 4096 := ⟨(I.val * 128 + J.val) % 4096, by omega⟩

section Moves

variable {α : Type} (I : Fin 512) (J : Fin 128)

theorem words_in (x : S16x4096.Idx → α) (h : S16x4096.ShapeCasts S512x128) :
    shapeCast S512x128 x h (ix2 I J) = x (ix2 (chain I J) (spot I J)) := by
  refine shapeCast_apply x h _ _ ?_
  rw [Shape.rowMajor_val_two, Shape.rowMajor_val_two]
  show (I.val * 128 + J.val) / 4096 * 4096 + (I.val * 128 + J.val) % 4096 = I.val * 128 + J.val
  omega

theorem atoms_in (x : S16x4096x14x3.Idx → α) (h1 : S16x4096x14x3.ShapeCasts S65536x42)
    (h2 : S65536x42.Transposes [1, 0] S42x65536) (h3 : S42x65536.ShapeCasts S42x512x128) (n : Fin 42) (p : Fin 14)
    (e : Fin 3) (hn : n.val = 3 * p.val + e.val) :
    shapeCast S42x512x128 (transpose S42x65536 [1, 0] (shapeCast S65536x42 x h1) h2) h3 (ix3 n I J) =
      x (ix4 (chain I J) (spot I J) p e) := by
  refine (shapeCast_apply _ h3 _ (ix2 n (⟨I.val * 128 + J.val, by omega⟩ : Fin 65536)) ?_).trans
    ((transpose_ix2_apply _ h2 _ _).trans (shapeCast_apply x h1 _ _ ?_))
  · rw [Shape.rowMajor_val_three, Shape.rowMajor_val_two]
    show n.val * 65536 + (I.val * 128 + J.val) = (n.val * 512 + I.val) * 128 + J.val
    omega
  · rw [Shape.rowMajor_val_four, Shape.rowMajor_val_two]
    show (((I.val * 128 + J.val) / 4096 * 4096 + (I.val * 128 + J.val) % 4096) * 14 + p.val) * 3 + e.val =
      (I.val * 128 + J.val) * 42 + n.val
    omega

theorem atoms_out (x : S42x512x128.Idx → α) (h1 : S42x512x128.ShapeCasts S42x65536)
    (h2 : S42x65536.Transposes [1, 0] S65536x42) (h3 : S65536x42.ShapeCasts S16x4096x14x3) (n : Fin 42) (p : Fin 14)
    (e : Fin 3) (hn : n.val = 3 * p.val + e.val) :
    shapeCast S16x4096x14x3 (transpose S65536x42 [1, 0] (shapeCast S42x65536 x h1) h2) h3
      (ix4 (chain I J) (spot I J) p e) = x (ix3 n I J) := by
  refine (shapeCast_apply _ h3 _ (ix2 (⟨I.val * 128 + J.val, by omega⟩ : Fin 65536) n) ?_).trans
    ((transpose_ix2_apply _ h2 _ _).trans (shapeCast_apply x h1 _ _ ?_))
  · rw [Shape.rowMajor_val_four, Shape.rowMajor_val_two]
    show (I.val * 128 + J.val) * 42 + n.val =
      (((I.val * 128 + J.val) / 4096 * 4096 + (I.val * 128 + J.val) % 4096) * 14 + p.val) * 3 + e.val
    omega
  · rw [Shape.rowMajor_val_three, Shape.rowMajor_val_two]
    show (n.val * 512 + I.val) * 128 + J.val = n.val * 65536 + (I.val * 128 + J.val)
    omega

/-- Every residue lies somewhere. -/
theorem lies (b : Fin 16) (r : Fin 4096) : ∃ I J, chain I J = b ∧ spot I J = r :=
  ⟨⟨(b.val * 4096 + r.val) / 128, by omega⟩, ⟨(b.val * 4096 + r.val) % 128, by omega⟩,
    Fin.ext (by simp only [chain]; omega), Fin.ext (by simp only [spot]; omega)⟩

end Moves

variable (m : (ℓ : Loc nD τ sig) → Buf (Elt Ideal) ℓ) (c : Dev nD)

/-- The argument arrays. -/
abbrev argX : FVec Ideal S16x4096x14x3 .f32 := m ((c.tc : Thread nD τ).loc main_arg0)
@[inherit_doc argX] abbrev argC : IVec S16x4096 32 := m ((c.tc : Thread nD τ).loc main_arg1)
@[inherit_doc argX] abbrev argS : IVec S16x4096 32 := m ((c.tc : Thread nD τ).loc main_arg2)

/-! ## The blocks -/

theorem idx : ∀ t : Fin cfg0.N, win0_0.index t = ![0, t.val, 0] ∧ win0_1.index t = ![t.val, 0] ∧
    win0_2.index t = ![t.val, 0] ∧ win0_3.index t = ![0, 0] ∧ win0_4.index t = ![0, 0] ∧ win0_5.index t = ![0, 0] ∧
    win0_6.index t = ![0, 0] ∧ win0_7.index t = ![0, t.val, 0] :=
  (by decide +kernel : ∀ t : Fin grid0.N, _)

theorem points (t : Fin cfg0.N) : t.val < 16 := lt_of_lt_of_eq t.isLt N_0

/-- The row of the arrays that row `i` of point `t`'s block is. -/
def line (t : Fin cfg0.N) (i : Fin 32) : Fin 512 := ⟨t.val * 32 + i.val, by have := points t; omega⟩

variable (t : Fin cfg0.N) (i : Fin 32) (j : Fin 128)

theorem block_atoms (n : Fin 42) (p : Fin 14) (e : Fin 3) (hn : n.val = 3 * p.val + e.val) :
    (iblk m c 0 t : FVec Ideal S42x32x128 .f32) (ix3 n i j) =
      argX m c (ix4 (chain (line t i) j) (spot (line t i) j) p e) := by
  refine Eq.trans ?_ (atoms_in (line t i) j (argX m c) shapeCasts_S16x4096x14x3_S65536x42
    transposes_S65536x42_S42x65536_1_0 shapeCasts_S42x65536_S42x512x128 n p e hn)
  blk_simp [iblk]
  entry_read
  blk_ext [idx t, line]

theorem block_types :
    (iblk m c 1 t : IVec S32x128 32) (ix2 i j) = argS m c (ix2 (chain (line t i) j) (spot (line t i) j)) := by
  refine Eq.trans ?_ (words_in (line t i) j (argS m c) shapeCasts_S16x4096_S512x128)
  blk_simp [iblk]
  entry_read
  blk_ext [idx t, line]

theorem block_codes :
    (iblk m c 2 t : IVec S32x128 32) (ix2 i j) = argC m c (ix2 (chain (line t i) j) (spot (line t i) j)) := by
  refine Eq.trans ?_ (words_in (line t i) j (argC m c) shapeCasts_S16x4096_S512x128)
  blk_simp [iblk]
  entry_read
  blk_ext [idx t, line]

/-- The kernel's tables of angles are the reference's. -/
theorem angles (a : Fin 20) (k : Fin 10) : Cert.KernelIdeal.lit0 (S20x10.rowMajor (ix2 a k)) = angle a k := by
  have h : S20x10.rowMajor (ix2 a k) = (⟨10 * a.val + k.val, by omega⟩ : Fin 200) :=
    Fin.ext (by rw [Shape.rowMajor_val_two]; show a.val * 10 + k.val = 10 * a.val + k.val; omega)
  rw [h]
  exact (by decide +kernel : ∀ x, Cert.KernelIdeal.lit0 x = Cert.ReferenceIdeal.lit3 x) _

theorem dihedrals (a : Fin 20) (k : Fin 10) : Cert.KernelIdeal.lit1 (S20x10.rowMajor (ix2 a k)) = dihedral a k := by
  have h : S20x10.rowMajor (ix2 a k) = (⟨10 * a.val + k.val, by omega⟩ : Fin 200) :=
    Fin.ext (by rw [Shape.rowMajor_val_two]; show a.val * 10 + k.val = 10 * a.val + k.val; omega)
  rw [h]
  exact (by decide +kernel : ∀ x, Cert.KernelIdeal.lit1 x = Cert.ReferenceIdeal.lit4 x) _

/-- A table from its binary32 patterns. -/
abbrev tableOf (l : Fin 200 → BitVec 32) : FVec Ideal S20x10 .f32 := fun i => FloatOps.ofBits .f32 (l (S20x10.rowMajor i))

theorem block_cosA (a : Fin 20) (k : Fin 10) :
    ((iblk m c 3 t : FVec Ideal S20x10 .f32) (ix2 a k) : Ideal .f32) = Ideal.cos (Ideal.ofBits .f32 (angle a k)) := by
  rw [← angles]
  refine Eq.trans (b := (Host.cos (tableOf Cert.KernelIdeal.lit0) : FVec Ideal S20x10 .f32) (ix2 a k)) ?_ rfl
  blk_simp [iblk]
  entry_read
  blk_ext [idx t]

theorem block_sinA (a : Fin 20) (k : Fin 10) :
    ((iblk m c 4 t : FVec Ideal S20x10 .f32) (ix2 a k) : Ideal .f32) = Ideal.sin (Ideal.ofBits .f32 (angle a k)) := by
  rw [← angles]
  refine Eq.trans (b := (Host.sin (tableOf Cert.KernelIdeal.lit0) : FVec Ideal S20x10 .f32) (ix2 a k)) ?_ rfl
  blk_simp [iblk]
  entry_read
  blk_ext [idx t]

theorem block_cosD (a : Fin 20) (k : Fin 10) :
    ((iblk m c 5 t : FVec Ideal S20x10 .f32) (ix2 a k) : Ideal .f32) = Ideal.cos (Ideal.ofBits .f32 (dihedral a k)) := by
  rw [← dihedrals]
  refine Eq.trans (b := (Host.cos (tableOf Cert.KernelIdeal.lit1) : FVec Ideal S20x10 .f32) (ix2 a k)) ?_ rfl
  blk_simp [iblk]
  entry_read
  blk_ext [idx t]

theorem block_sinD (a : Fin 20) (k : Fin 10) :
    ((iblk m c 6 t : FVec Ideal S20x10 .f32) (ix2 a k) : Ideal .f32) = Ideal.sin (Ideal.ofBits .f32 (dihedral a k)) := by
  rw [← dihedrals]
  refine Eq.trans (b := (Host.sin (tableOf Cert.KernelIdeal.lit1) : FVec Ideal S20x10 .f32) (ix2 a k)) ?_ rfl
  blk_simp [iblk]
  entry_read
  blk_ext [idx t]

/-! ## The array -/

/-- The reference's result for the kernel's arguments. -/
abbrev wanted : FVec Ideal S16x4096x14x3 .f32 := Cert.ReferenceIdeal.Ref.result (argX m c) (argC m c) (argS m c)

/-- The same, laid out as the kernel's array is. -/
def laid : FVec Ideal S42x512x128 .f32 := fun y =>
  wanted m c (ix4 (chain (y 1) (y 2)) (spot (y 1) (y 2)) ⟨(y 0).val / 3, by have : (y 0).val < 42 := (y 0).isLt; omega⟩
    ⟨(y 0).val % 3, by omega⟩)

variable (types : ∀ b r, ∃ a : Fin 20, argS m c (ix2 b r) = BitVec.ofNat 32 a.val)

include types in
theorem point (n : Fin 42) :
    (outsAt0 m c t : FVec Ideal S42x32x128 .f32) (ix3 n i j) = laid m c (ix3 n (line t i) j) := by
  obtain ⟨a, ha⟩ := types (chain (line t i) j) (spot (line t i) j)
  unfold outsAt0
  refine (out_apply ..).trans ((slab_run c (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (iblk m c 0 t) (iblk m c 1 t) (iblk m c 2 t) (iblk m c 3 t)
    (iblk m c 4 t) (iblk m c 5 t) (iblk m c 6 t) (block_cosA m c t) (block_sinA m c t) (block_cosD m c t)
    (block_sinD m c t) i j ((block_types m c t i j).trans ha) n).trans ?_)
  refine Eq.trans ?_ (Cert.ReferenceIdeal.Ref.result_apply (X := argX m c) (C := argC m c) ha ⟨n.val / 3, by omega⟩
    ⟨n.val % 3, by omega⟩).symm
  have hx : given (iblk m c 0 t : FVec Ideal S42x32x128 .f32) i j =
      Cert.ReferenceIdeal.Ref.row (argX m c) (chain (line t i) j) (spot (line t i) j) :=
    funext fun p => funext fun e => block_atoms m c t i j _ p e rfl
  rw [hx, block_codes m c t i j]

include types in
/-- The array after the run. -/
theorem final : (dats m 0 c).arrAt 7 (cfgs 0).N = laid m c := by
  refine (dats m 0 c).arrAt_eq_of_covers 7 _ (by decide +kernel) fun t _ y => ?_
  blk_simp
  rw [after0_7]
  obtain ⟨n, i, j, rfl⟩ : ∃ n i j, y = ix3 n i j := ⟨y 0, y 1, y 2, eq_ix3 y⟩
  refine (point m c t i j types n).trans ?_
  blk_ext [idx t, line]

/-- The lines after the pipeline lay its array out by chains. -/
theorem lines_after (W : Valuation τ sig (Elt Ideal)) :
    StableHlo.after hostOps1 W (Proc.devRef .tc main_v12) =
      shapeCast S16x4096x14x3 (transpose S65536x42 [1, 0]
        (shapeCast S42x65536 (W (Proc.devRef .tc main_v9) : FVec Ideal S42x512x128 .f32) shapeCasts_S42x512x128_S42x65536)
        transposes_S42x65536_S65536x42_1_0) shapeCasts_S65536x42_S16x4096x14x3 := by
  after_results
  rfl

include types in
/-- The result. -/
theorem tail : Pipeline.afterTail₀ cfgs (dats m) 0 (V0 m) [hostOps1] c main_v12 = wanted m c := by
  unfold Pipeline.afterTail₀
  rw [List.flatten_cons, List.flatten_nil, List.append_nil]
  refine (lines_after _).trans ?_
  have hw : (Pipeline.withArrays (cfgs 0).spec c (V0 m c) fun w => (dats m 0 c).arrAt w (cfgs 0).N)
      (Proc.devRef .tc main_v9) = laid m c :=
    (Pipeline.withArrays_arr (cfgs 0).spec launch0.win.arr_inj c (V0 m c) _ 7).trans (final m c types)
  rw [hw]
  funext y
  obtain ⟨b, r, p, e, rfl⟩ : ∃ b r p e, y = ix4 b r p e := ⟨y 0, y 1, y 2, y 3, eq_ix4 y⟩
  obtain ⟨I, J, rfl, rfl⟩ := lies b r
  refine (atoms_out I J (laid m c) _ _ _ ⟨3 * p.val + e.val, by omega⟩ p e rfl).trans ?_
  unfold laid
  refine congrArg (wanted m c) (congrArg₂ (ix4 _ _) (Fin.ext ?_) (Fin.ext ?_))
  · show (3 * p.val + e.val) / 3 = p.val
    omega
  · show (3 * p.val + e.val) % 3 = e.val
    omega

/-- Every run ends with the result at the reference's. -/
theorem run (ρ : Dev nD → PrngReg) (types : ∀ c b r, ∃ a : Fin 20, argS m c (ix2 b r) = BitVec.ofNat 32 a.val) :
    θ_run defs (onTc (τ := τ) (main (F := Ideal))) ⟨m, fun _ => 0, ρ⟩ fun r => ∀ c : Dev nD,
      r.2.mem ((c.tc : Thread nD τ).loc main_v12) = wanted m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨((h.1 c).2 main_v12 (by decide)).trans (tail m c (types c)), h.2 c⟩)
    (θ_run_and (run_main m ρ) (unchanged m ρ))

/-! ## The precondition -/

/-- A word that is at least 0 and below 20 names a type. -/
theorem type_of {w : BitVec 32}
    (h : BitVec.ofBool ((0#32).sle w) &&& BitVec.ofBool (w.slt 20#32) = 1#1) : ∃ a : Fin 20, w = BitVec.ofNat 32 a.val := by
  have h0 : (0#32).sle w = true := by revert h; cases (0#32).sle w <;> simp
  have h1 : w.slt 20#32 = true := by revert h; cases w.slt 20#32 <;> simp
  have l0 : (0 : ℤ) ≤ w.toInt := by simpa [BitVec.sle] using h0
  have l1 : w.toInt < 20 := by simpa [BitVec.slt] using h1
  rw [BitVec.toInt_eq_toNat_cond] at l0 l1
  have l : w.toNat < 20 := by split at l0 <;> omega
  exact ⟨⟨w.toNat, l⟩, by simp⟩

theorem types_of [Cert.Pre_types_in_range.Facts] {X : FVec Ideal S16x4096x14x3 .f32} {C S : IVec S16x4096 32}
    (h : Cert.Pre_types_in_range.fn (F := Ideal) X C S = fun _ => 1#1) (b : Fin 16) (r : Fin 4096) :
    ∃ a : Fin 20, S (ix2 b r) = BitVec.ofNat 32 a.val :=
  type_of (congrFun h (ix2 b r))

end Cert.KernelIdeal.Value

end
-- ==== Proof.lean ====
/- The certificate: what each claim of `Cert.Claim` (Defs.lean) rests on.

   The frames of the kernel are the generated ones. The reference declares no semaphore, so its frame is its run read at
   the arguments. For the value claim, `Cert.KernelIdeal.Value.run` says that the kernel ends with the reference's result
   of its arguments, and `Cert.ReferenceIdeal.Ref.run_result` that the reference does. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_types_in_range
public import proofs.«01_k».proof.Proof.RefRun
public import proofs.«01_k».proof.Proof.Value
public import Idealize.ShloMosaic.Lib.Quiescent

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem algebraic : Cert.algebraic_KernelIdeal_ReferenceIdeal_pre_types_in_range := by
  intro m g m' g' pre agree
  refine ⟨fun c => Cert.KernelIdeal.Value.wanted m c,
    Cert.KernelIdeal.Value.run m g fun c b r => Cert.KernelIdeal.Value.types_of (pre c) b r,
    (θ_run Cert.ReferenceIdeal.defs _ _).mono (fun r h c => ⟨(h c).1.trans ?_, (h c).2⟩)
      (Cert.ReferenceIdeal.Ref.run_result m' g')⟩
  obtain ⟨e0, e1, e2⟩ := agree c
  have : ∀ {X X' C C' S S'}, X' = X → C' = C → S' = S →
      Cert.ReferenceIdeal.Ref.result (F := Ideal) X' C' S' = Cert.ReferenceIdeal.Ref.result X C S := by
    rintro _ _ _ _ _ _ rfl rfl rfl; rfl
  exact this e0 e1 e2

theorem claim : Cert.Claim :=
  ⟨Cert.Kernel.Gen.facts, Cert.KernelIdeal.Gen.facts, Cert.ReferenceIdeal.Gen.facts, Cert.Pre_types_in_range.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial,
    algebraic⟩

end Cert.Proof

end
